-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  IdealRules.named_const.Statement Cert.KernelIdeal.κ "score_scale_log2e" .f32 0x3D8293EE#32 (((Real.sqrt 512)⁻¹ * (Real.log 2)⁻¹ : ℝ) : EReal)

def preserves_Reference_ReferenceIdeal : Prop :=
  IdealRules.named_const.Statement Cert.ReferenceIdeal.κ "score_scale" .f32 0x3D3504F3#32 (((Real.sqrt 512)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Reference (hReference := hReference)
    ∧ preserves_Kernel_KernelIdeal
    ∧ preserves_Reference_ReferenceIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S12x2048x512 : Shape := ⟨3, ![12, 2048, 512]⟩
abbrev S512x512 : Shape := ⟨2, ![512, 512]⟩
abbrev S512 : Shape := ⟨1, ![512]⟩
abbrev S_ : Shape := ⟨0, ![]⟩

class Facts : Prop where
  bcast_S_S12x2048x512 : S_.BroadcastsInDim S12x2048x512 (![] : Fin 0 → Fin S12x2048x512.rank)

variable [Facts]

def fn {F : FTy → Type} [FloatOps F] (main_arg0 : FVec F S12x2048x512 .bf16) (main_arg1 : FVec F S12x2048x512 .bf16) (main_arg2 : FVec F S12x2048x512 .bf16) (main_arg3 : FVec F S12x2048x512 .bf16) (main_arg4 : FVec F S512x512 .fp8e4m3) (main_arg5 : FVec F S512 .f32) (main_arg6 : FVec F S512 .f32) : IVec S12x2048x512 1 × IVec S12x2048x512 1 :=
  let main_v0 : FVec F S12x2048x512 .bf16 := Host.absf main_arg0
  let main_cst : FVec F S_ .bf16 := constant S_ .bf16 0x7F80#16
  let main_v1 : FVec F S12x2048x512 .bf16 := broadcastInDim S12x2048x512 ![] bcast_S_S12x2048x512 main_cst
  let main_v2 : IVec S12x2048x512 1 := cmpf .olt main_v0 main_v1
  let main_v3 : FVec F S12x2048x512 .bf16 := Host.absf main_arg1
  let main_cst_0 : FVec F S_ .bf16 := constant S_ .bf16 0x7F80#16
  let main_v4 : FVec F S12x2048x512 .bf16 := broadcastInDim S12x2048x512 ![] bcast_S_S12x2048x512 main_cst_0
  let main_v5 : IVec S12x2048x512 1 := cmpf .olt main_v3 main_v4
  (main_v2, main_v5)
-- ==== Kernel.lean ====
abbrev S12x2048x512 : Shape := ⟨3, ![12, 2048, 512]⟩
abbrev S512x512 : Shape := ⟨2, ![512, 512]⟩
abbrev S512 : Shape := ⟨1, ![512]⟩
abbrev S1x512 : Shape := ⟨2, ![1, 512]⟩
abbrev S12x2048 : Shape := ⟨2, ![12, 2048]⟩
abbrev S12x512 : Shape := ⟨2, ![12, 512]⟩
abbrev S1x512x512 : Shape := ⟨3, ![1, 512, 512]⟩
abbrev S1x2048x512 : Shape := ⟨3, ![1, 2048, 512]⟩
abbrev S2048x512 : Shape := ⟨2, ![2048, 512]⟩
abbrev S512x2048 : Shape := ⟨2, ![512, 2048]⟩
abbrev S512x1 : Shape := ⟨2, ![512, 1]⟩
abbrev S1x256 : Shape := ⟨2, ![1, 256]⟩
abbrev S512x256 : Shape := ⟨2, ![512, 256]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S8x128 : Shape := ⟨2, ![8, 128]⟩

abbrev nBuf : Space → Nat
  | .hbm => 16
  | .vmem => 23
  | .smem => 0
  | _ => 0

abbrev bufTy : (tb : Table) → Fin (tcTables nBuf tb) → BufTy
  | .hbm, ⟨0, _⟩ => ⟨S12x2048x512, .bf16⟩
  | .hbm, ⟨1, _⟩ => ⟨S12x2048x512, .bf16⟩
  | .hbm, ⟨2, _⟩ => ⟨S12x2048x512, .bf16⟩
  | .hbm, ⟨3, _⟩ => ⟨S12x2048x512, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S12x2048x512, .bf16⟩
  | .hbm, ⟨10, _⟩ => ⟨S12x2048x512, .fp8e4m3⟩
  | .hbm, ⟨11, _⟩ => ⟨S12x2048, .f32⟩
  | .hbm, ⟨12, _⟩ => ⟨S12x2048x512, .fp8e4m3⟩
  | .hbm, ⟨13, _⟩ => ⟨S12x2048, .f32⟩
  | .hbm, ⟨14, _⟩ => ⟨S12x512, .f32⟩
  | .hbm, ⟨15, _⟩ => ⟨S12x512, .f32⟩
  | .local _ .vmem, ⟨0, _⟩ => ⟨S1x512x512, .bf16⟩
  | .local _ .vmem, ⟨1, _⟩ => ⟨S1x512x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x512, .bf16⟩
  | .local _ .vmem, ⟨7, _⟩ => ⟨S1x512x512, .bf16⟩
  | .local _ .vmem, ⟨8, _⟩ => ⟨S512x512, .fp8e4m3⟩
  | .local _ .vmem, ⟨9, _⟩ => ⟨S1x512, .f32⟩
  | .local _ .vmem, ⟨10, _⟩ => ⟨S1x512, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .fp8e4m3⟩
  | .local _ .vmem, ⟨14, _⟩ => ⟨S1x512x512, .fp8e4m3⟩
  | .local _ .vmem, ⟨15, _⟩ => ⟨S12x2048, .f32⟩
  | .local _ .vmem, ⟨16, _⟩ => ⟨S1x512x512, .fp8e4m3⟩
  | .local _ .vmem, ⟨17, _⟩ => ⟨S1x512x512, .fp8e4m3⟩
  | .local _ .vmem, ⟨18, _⟩ => ⟨S12x2048, .f32⟩
  | .local _ .vmem, ⟨19, _⟩ => ⟨S12x512, .f32⟩
  | .local _ .vmem, ⟨20, _⟩ => ⟨S12x512, .f32⟩
  | .local _ .vmem, ⟨21, _⟩ => ⟨S1x512, .f32⟩
  | .local _ .vmem, ⟨22, _⟩ => ⟨S1x512, .f32⟩
  | _, _ => ⟨S12x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨2, ![12, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg0 : BitVec 32 := BitVec.ofNat 32 (i 0).val
  let v100 : Index := Scalar.indexCast arg0
  let arg1 : BitVec 32 := BitVec.ofNat 32 (i 1).val
  let c512_i32 : BitVec 32 := 512#32
  let v0 : BitVec 32 := Scalar.muli arg1 c512_i32
  let v1 : BitVec 32 := v0
  let v101 : Index := Scalar.indexCast v1
  ![v100.toNat, v101.toNat]
def k0_cond1 (i : grid0.Coords) : BitVec 1 :=
  let arg1 : BitVec 32 := BitVec.ofNat 32 (i 1).val
  let c3_i32 : BitVec 32 := 3#32
  let v530 : BitVec 1 := Scalar.cmpi .eq arg1 c3_i32
  let v531 : BitVec 32 := Scalar.extui v530
  let c0_i32_207 : BitVec 32 := 0#32
  let v532 : BitVec 1 := Scalar.cmpi .ne v531 c0_i32_207
  v532

def k0_off2 (i : grid0.Coords) : Fin 2 → Nat :=
  let arg0 : BitVec 32 := BitVec.ofNat 32 (i 0).val
  let v534 : Index := Scalar.indexCast arg0
  let c0_210 : Index := 0#32
  ![v534.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S12x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S12x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S12x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S12x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== KernelIdeal.lean ====
variable {F : FTy → Type} [FloatOps F] [Named F]
def κ : String → Option EReal := fun
  | "score_scale_log2e" => some (((Real.sqrt 512)⁻¹ * (Real.log 2)⁻¹ : ℝ) : EReal)
  | _ => none
-- ==== ReferenceIdeal.lean ====
variable {F : FTy → Type} [FloatOps F] [Named F]
def κ : String → Option EReal := fun
  | "score_scale" => some (((Real.sqrt 512)⁻¹ : ℝ) : EReal)
  | _ => none
-- ==== Reference.lean ====
abbrev S12x2048x512 : Shape := ⟨3, ![12, 2048, 512]⟩
abbrev S512x512 : Shape := ⟨2, ![512, 512]⟩
abbrev S512 : Shape := ⟨1, ![512]⟩
abbrev S12x2048 : Shape := ⟨2, ![12, 2048]⟩
abbrev S12x2048x2048 : Shape := ⟨3, ![12, 2048, 2048]⟩
abbrev S12x2048x1 : Shape := ⟨3, ![12, 2048, 1]⟩
abbrev S1x1x512 : Shape := ⟨3, ![1, 1, 512]⟩

abbrev nBuf : Space → Nat
  | .hbm => 12
  | .vmem => 12
  | .smem => 0
  | _ => 0

abbrev bufTy : (tb : Table) → Fin (tcTables nBuf tb) → BufTy
  | .hbm, ⟨0, _⟩ => ⟨S12x2048x512, .bf16⟩
  | .hbm, ⟨1, _⟩ => ⟨S12x2048x512, .bf16⟩
  | .hbm, ⟨2, _⟩ => ⟨S12x2048x512, .bf16⟩
  | .hbm, ⟨3, _⟩ => ⟨S12x2048x512, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S12x2048x512, .bf16⟩
  | .hbm, ⟨8, _⟩ => ⟨S12x2048x512, .fp8e4m3⟩
  | .hbm, ⟨9, _⟩ => ⟨S12x2048, .f32⟩
  | .hbm, ⟨10, _⟩ => ⟨S12x2048x512, .fp8e4m3⟩
  | .hbm, ⟨11, _⟩ => ⟨S12x2048, .f32⟩
  | .local _ .vmem, ⟨0, _⟩ => ⟨S12x2048x512, .bf16⟩
  | .local _ .vmem, ⟨1, _⟩ => ⟨S12x2048x512, .bf16⟩
  | .local _ .vmem, ⟨2, _⟩ => ⟨S12x2048x512, .bf16⟩
  | .local _ .vmem, ⟨3, _⟩ => ⟨S12x2048x512, .bf16⟩
  | .local _ .vmem, ⟨4, _⟩ => ⟨S512x512, .fp8e4m3⟩
  | .local _ .vmem, ⟨5, _⟩ => ⟨S512, .f32⟩
  | .local _ .vmem, ⟨6, _⟩ => ⟨S512, .f32⟩
  | .local _ .vmem, ⟨7, _⟩ => ⟨S12x2048x512, .bf16⟩
  | .local _ .vmem, ⟨8, _⟩ => ⟨S12x2048x512, .fp8e4m3⟩
  | .local _ .vmem, ⟨9, _⟩ => ⟨S12x2048, .f32⟩
  | .local _ .vmem, ⟨10, _⟩ => ⟨S12x2048x512, .fp8e4m3⟩
  | .local _ .vmem, ⟨11, _⟩ => ⟨S12x2048, .f32⟩
  | _, _ => ⟨S12x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S12x2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x2048x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x2048x512 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelBody.lean ====
/-
  The body of the attention call at one grid point: what each of its windows holds afterwards, as a function of the
  blocks it was called with. The four windows that keep a whole array in place are described by what they held before:
  a row segment (or a row) is overwritten and every other entry stays.
-/
module

public import proofs.«01_k».proof.Proof.Gen.Kernel.Frame
public import proofs.«01_k».proof.Proof.Gen.Kernel.Points
public import proofs.«01_k».proof.Proof.Gen.Kernel.Skeleton
public import Idealize.ShloMosaic.Lib.Pipeline.DatRel
public import Idealize.ShloMosaic.Lib.Pipeline.ArrRel
public import Idealize.ShloMosaic.Lib.Pipeline.Value

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole of a block of 512 tokens. -/
abbrev rTok : Rect S1x512x512 := Rect.unit (s := S1x512x512) ![0, 0, 0] S1x512x512.size inb_S1x512x512_S1x512x512_0_0_0
/-- The whole of an image. -/
abbrev rImg : Rect S1x2048x512 := Rect.unit (s := S1x2048x512) ![0, 0, 0] S1x2048x512.size inb_S1x2048x512_S1x2048x512_0_0_0
/-- The whole of the weight matrix. -/
abbrev rMat : Rect S512x512 := Rect.unit (s := S512x512) ![0, 0] S512x512.size inb_S512x512_S512x512_0_0
/-- The whole of a row of 512 numbers. -/
abbrev rRow : Rect S1x512 := Rect.unit (s := S1x512) ![0, 0] S1x512.size inb_S1x512_S1x512_0_0
/-- The segment of the per-token array that a grid point fills. -/
abbrev rSeg (i : grid0.Coords) : Rect S12x2048 := Rect.unit (s := S12x2048) (k0_off1 i) S1x512.size (k0_off1_inb i)

section Values

variable (x0 : Vec F S1x512x512 .bf16) (x1 x2 : Vec F S1x2048x512 .bf16) (x3 : Vec F S1x512x512 .bf16)
  (x4 : Vec F S512x512 .fp8e4m3) (x5 x6 : Vec F S1x512 .f32)

/-- The attention output of the block. -/
def vO : FVec F S512x512 .f32 := k0_pay2 (View.ld x0 rTok) (View.ld x1 rImg) (View.ld x2 rImg)
/-- The threshold of its quantiser, per token: the largest magnitude over 448. -/
def vT : FVec F S512x1 .f32 := k0_pay3 (View.ld x0 rTok) (View.ld x1 rImg) (View.ld x2 rImg)
/-- Its scale, per token. -/
def vScale : FVec F S512x1 .f32 := k0_pay8 (vT x0 x1 x2) k0_pay4 k0_pay5
/-- Its codes. -/
def vCodes : FVec F S512x512 .fp8e4m3 := k0_pay9 (vO x0 x1 x2) (vT x0 x1 x2) k0_pay4 k0_pay5
/-- The output projection of the codes. -/
def vProj : FVec F S512x512 .f32 :=
  k0_pay15 (vScale x0 x1 x2) (vCodes x0 x1 x2) (View.ld x4 rMat) (View.ld x5 rRow) (View.ld x6 rRow)
/-- The block of the projection result. -/
def out7 : Vec F S1x512x512 .bf16 :=
  k0_pay16 (vScale x0 x1 x2) (vCodes x0 x1 x2) (View.ld x4 rMat) (View.ld x5 rRow) (View.ld x6 rRow)
/-- The block of the attention codes. -/
def out8 : Vec F S1x512x512 .fp8e4m3 := k0_pay10 (vO x0 x1 x2) (vT x0 x1 x2) k0_pay4 k0_pay5
/-- The segment of the attention scales. -/
def row9 : Vec F S1x512 .f32 :=
  k0_pay14 (vScale x0 x1 x2) k0_pay11 (k0_pay12 (vT x0 x1 x2) k0_pay4 k0_pay5) (k0_pay13 (vT x0 x1 x2) k0_pay4 k0_pay5)
    (Scalar.ofBits .f32 0x00000000#32)
/-- The block of the residual codes. -/
def out10 : Vec F S1x512x512 .fp8e4m3 := k0_pay23 (k0_pay22 (vProj x0 x1 x2 x4 x5 x6) (k0_pay17 (View.ld x3 rTok)))
/-- The segment of the residual scales. -/
def row11 : Vec F S1x512 .f32 := k0_pay24 (k0_pay21 (vProj x0 x1 x2 x4 x5 x6) (k0_pay17 (View.ld x3 rTok)))

end Values

/-- One whole-block store covers the block. -/
theorem coverTok {e : EltTy} (p : S1x512x512.Idx → Elt F e) (y : S1x512x512.Idx) :
    ∃ q ∈ [(⟨rTok, p⟩ : View.Piece (Elt F) S1x512x512 e)], y ∈ q.1.set :=
  ⟨_, List.mem_singleton_self _, View.mem_set_unit_zero (by funext a; fin_cases a <;> rfl) inb_S1x512x512_S1x512x512_0_0_0 y⟩

/-- and leaves its payload. -/
theorem canonTok {e : EltTy} (p : S1x512x512.Idx → Elt F e) : View.canon [(⟨rTok, p⟩ : View.Piece (Elt F) S1x512x512 e)] = p :=
  View.canon_unit_zero (by funext a; fin_cases a <;> rfl) inb_S1x512x512_S1x512x512_0_0_0 p

/-- What one store to the segment leaves of an array that held `X`. -/
def Overwrites (i : grid0.Coords) (X X' : S12x2048.Idx → Elt F .f32) (row : S1x512.Idx → Elt F .f32) : Prop :=
  (∀ x : S1x512.Idx, X' ((rSeg i).emb x) = row x) ∧ ∀ y, y ∉ (rSeg i).set → X' y = X y

theorem overwrites_of {κ : Kind} {sp : Space} (v : View sig κ sp S12x2048 .f32) (f : v.ty.Contents (Elt F)) (i : grid0.Coords)
    (row : S1x512.Idx → Elt F .f32) :
    Overwrites i (v.read (Elt F) f) (v.read (Elt F) (v.writes (Elt F) f [(⟨rSeg i, row⟩ : View.Piece (Elt F) S12x2048 .f32)])) row :=
  ⟨fun x => View.read_writes_cons_emb v f (rSeg i) row [] x, fun y hy => View.read_writes_cons_miss v f _ [] y hy⟩

-- the payloads are compared by name, never unfolded
attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57

set_option maxHeartbeats 400000 in
/-- The body's triple. -/
theorem sound (c : Dev nD) (E : Set ℕ) (i : grid0.Coords)
    (arg2 : Memref sig .tc .vmem S1x512x512 .bf16) (harg2 : arg2.IsWhole) (arg3 : Memref sig .tc .vmem S1x2048x512 .bf16) (harg3 : arg3.IsWhole)
    (arg4 : Memref sig .tc .vmem S1x2048x512 .bf16) (harg4 : arg4.IsWhole) (arg5 : Memref sig .tc .vmem S1x512x512 .bf16) (harg5 : arg5.IsWhole)
    (arg6 : Memref sig .tc .vmem S512x512 .fp8e4m3) (harg6 : arg6.IsWhole) (arg7 : Memref sig .tc .vmem S1x512 .f32) (harg7 : arg7.IsWhole)
    (arg8 : Memref sig .tc .vmem S1x512 .f32) (harg8 : arg8.IsWhole) (arg9 : Memref sig .tc .vmem S1x512x512 .bf16) (harg9 : arg9.IsWhole)
    (arg10 : Memref sig .tc .vmem S1x512x512 .fp8e4m3) (harg10 : arg10.IsWhole) (arg11 : Memref sig .tc .vmem S12x2048 .f32) (harg11 : arg11.IsWhole)
    (arg12 : Memref sig .tc .vmem S1x512x512 .fp8e4m3) (harg12 : arg12.IsWhole) (arg13 : Memref sig .tc .vmem S12x2048 .f32) (harg13 : arg13.IsWhole)
    (arg14 : Memref sig .tc .vmem S12x512 .f32) (harg14 : arg14.IsWhole) (arg15 : Memref sig .tc .vmem S12x512 .f32) (harg15 : arg15.IsWhole)
    (arg16 : Memref sig .tc .vmem S1x512 .f32) (harg16 : arg16.IsWhole) (arg17 : Memref sig .tc .vmem S1x512 .f32) (harg17 : arg17.IsWhole)
    (x0 : Vec F S1x512x512 .bf16) (x1 x2 : Vec F S1x2048x512 .bf16) (x3 : Vec F S1x512x512 .bf16)
    (x4 : Vec F S512x512 .fp8e4m3) (x5 x6 : Vec F S1x512 .f32) (x9 x11 : Vec F S12x2048 .f32) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6
      ∗ (∃ d, owns (c : Thread nD τ) arg9 fullShare d) ∗ (∃ d, owns (c : Thread nD τ) arg10 fullShare d)
      ∗ owns (c : Thread nD τ) arg11 fullShare x9 ∗ (∃ d, owns (c : Thread nD τ) arg12 fullShare d) ∗ owns (c : Thread nD τ) arg13 fullShare x11
      ∗ (∃ d, owns (c : Thread nD τ) arg14 fullShare d) ∗ (∃ d, owns (c : Thread nD τ) arg15 fullShare d)
      ∗ (∃ d, owns (c : Thread nD τ) arg16 fullShare d) ∗ (∃ d, owns (c : Thread nD τ) arg17 fullShare d)
      ∗ ((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
        ∗ owns (c : Thread nD τ) arg9 fullShare (out7 x0 x1 x2 x4 x5 x6) ∗ owns (c : Thread nD τ) arg10 fullShare (out8 x0 x1 x2)
        ∗ (∃ X, ⌜Overwrites i x9 X (row9 x0 x1 x2)⌝ ∗ owns (c : Thread nD τ) arg11 fullShare X)
        ∗ owns (c : Thread nD τ) arg12 fullShare (out10 x0 x1 x2 x3 x4 x5 x6)
        ∗ (∃ X, ⌜Overwrites i x11 X (row11 x0 x1 x2 x3 x4 x5 x6)⌝ ∗ owns (c : Thread nD τ) arg13 fullShare X)
        ∗ (∃ d, owns (c : Thread nD τ) arg14 fullShare d) ∗ (∃ d, owns (c : Thread nD τ) arg15 fullShare d)
        ∗ (∃ d, owns (c : Thread nD τ) arg16 fullShare d) ∗ (∃ d, owns (c : Thread nD τ) arg17 fullShare d)) -∗ K PUnit.unit))
    ⊢ wp frame (wpE (defs₀ (F := F)) Variants.none c none) E
        (cc0_attn i arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17) K := by
  simp only [cc0_attn_eq_skeleton]
  unfold cc0_attn_skel
  simp only [k0_part13_eq_skeleton]
  unfold k0_part13_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel
    k0_part10_skel k0_part11_skel k0_part12_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%f9, %hf9, H9⟩, ⟨%d10, %f10, -, H10⟩, ⟨%f11, %hf11, H11⟩, ⟨%d12, %f12, -, H12⟩, ⟨%d13, %f13, -, H13⟩,
    ⟨%d14, %f14, -, H14⟩, ⟨%d15, %f15, -, H15⟩, Hk⟩
  subst hf0 hf1 hf2 hf3 hf4 hf5 hf6 hf9 hf11
  by_cases hc : k0_cond1 i = 1#1
  all_goals
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr
      swap; · iexact H7
      ipureintro
      refine (View.read_writes_eq_canon _ _ _ (coverTok _)).trans ?_
      refine (canonTok _).trans ?_
      rfl
    isplitl [H8]
    · iexists _; isplitr
      swap; · iexact H8
      ipureintro
      refine (View.read_writes_eq_canon _ _ _ (coverTok _)).trans ?_
      refine (canonTok _).trans ?_
      rfl
    isplitl [H9]
    · iexists _; isplitr
      swap
      · iexists _; isplitr
        swap; · iexact H9
        ipureintro; rfl
      ipureintro
      exact overwrites_of _ _ _ _
    isplitl [H10]
    · iexists _; isplitr
      swap; · iexact H10
      ipureintro
      refine (View.read_writes_eq_canon _ _ _ (coverTok _)).trans ?_
      refine (canonTok _).trans ?_
      rfl
    isplitl [H11]
    · iexists _; isplitr
      swap
      · iexists _; isplitr
        swap; · iexact H11
        ipureintro; rfl
      ipureintro
      exact overwrites_of _ _ _ _
    isplitl [H12]
    · iexists _; iexists _; isplitr
      swap; · iexact H12
      ipureintro; rfl
    isplitl [H13]
    · iexists _; iexists _; isplitr
      swap; · iexact H13
      ipureintro; rfl
    isplitl [H14]
    · iexists _; iexists _; isplitr
      swap; · iexact H14
      ipureintro; rfl
    iexists _; iexists _; isplitr
    swap; · iexact H15
    ipureintro; rfl

end Cert.Kernel.Attn

end
-- ==== Proof.KernelRun.lean ====
/-
  The attention call over its grid. The exact windows hold, after each point, the values of that point's blocks. The two
  per-token arrays stay in place over the whole grid: after a point, every segment filled so far holds its scales. The two
  statistics arrays and the scratch rows are left unspecified. From this follow the run, and that it leaves every argument
  as it was.
-/
module

public import proofs.«01_k».proof.Proof.KernelBody

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows held to a relation. -/
def marked : Fin 14 → Bool := fun w => match w with | ⟨9, _⟩ => true | ⟨11, _⟩ => true | ⟨12, _⟩ => true | ⟨13, _⟩ => true | _ => false

/-- The segment of attention scales that point `t` writes. -/
def seg9 (c : Dev nD) (t : Fin cfg0.N) : S1x512.Idx → Elt F .f32 := row9 (iblk m c 0 t) (iblk m c 1 t) (iblk m c 2 t)
/-- The segment of residual scales that point `t` writes. -/
def seg11 (c : Dev nD) (t : Fin cfg0.N) : S1x512.Idx → Elt F .f32 := row11 (iblk m c 0 t) (iblk m c 1 t) (iblk m c 2 t) (iblk m c 3 t) (iblk m c 4 t) (iblk m c 5 t) (iblk m c 6 t)

/-- Every segment filled up to point `t` holds its row. -/
def Filled (row : Fin cfg0.N → S1x512.Idx → Elt F .f32) (t : Fin cfg0.N) (X : S12x2048.Idx → Elt F .f32) : Prop :=
  ∀ t' : Fin cfg0.N, t'.val ≤ t.val → ∀ x : S1x512.Idx, X ((rSeg (grid0.coords t')).emb x) = row t' x

/-- Where point `t`'s segment starts. -/
theorem off_eq : ∀ t : Fin 48, k0_off1 (grid0.coords t) 0 = t.val / 4 ∧ k0_off1 (grid0.coords t) 1 = t.val % 4 * 512 := by
  decide +kernel

/-- The segments of two points do not meet. -/
theorem seg_disjoint (t t' : Fin cfg0.N) (h : t'.val ≠ t.val) (x : S1x512.Idx) :
    (rSeg (grid0.coords t')).emb x ∉ (rSeg (grid0.coords t)).set := by
  have h1 := off_eq t
  have h2 := off_eq t'
  have hx : (x 1).val < 512 := (x 1).isLt
  have hx0 : (x 0).val < 1 := (x 0).isLt
  have e0 : ((rSeg (grid0.coords t')).emb x 0).val = k0_off1 (grid0.coords t') 0 + 1 * (x 0).val := rfl
  have e1 : ((rSeg (grid0.coords t')).emb x 1).val = k0_off1 (grid0.coords t') 1 + 1 * (x 1).val := rfl
  by_cases h4 : t'.val / 4 = t.val / 4
  · refine (rSeg (grid0.coords t)).not_mem_set_of_axis _ 1 _ 512 h1.2 rfl rfl ?_
    rw [e1, h2.2]; omega
  · refine (rSeg (grid0.coords t)).not_mem_set_of_axis _ 0 _ 1 h1.1 rfl rfl ?_
    rw [e0, h2.1]; omega

/-- One more segment written over an array whose earlier segments are filled. -/
theorem filled_step (row : Fin cfg0.N → S1x512.Idx → Elt F .f32) (t : Fin cfg0.N) (Y X : S12x2048.Idx → Elt F .f32)
    (hY : ∀ h : t.val ≠ 0, Filled row ⟨t.val - 1, Nat.lt_of_le_of_lt (Nat.sub_le _ _) t.isLt⟩ Y)
    (hX : Overwrites (grid0.coords t) Y X (row t)) : Filled row t X := by
  intro t' ht' x
  by_cases h : t' = t
  · subst h; exact hX.1 x
  · have hne : t'.val ≠ t.val := fun e => h (Fin.ext e)
    rw [hX.2 _ (seg_disjoint t t' hne x)]
    exact hY (by omega) t' (by show t'.val ≤ t.val - 1; omega) x

/-- What a marked window holds after point `t`. -/
def Rl (c : Dev nD) : (w : Fin cfg0.W) → Fin cfg0.N → ((cfg0.win w).block.Idx → Elt F (cfg0.win w).elt) → Prop := fun w =>
  match w with
  | ⟨9, _⟩ => fun t X => Filled (seg9 m c) t X
  | ⟨11, _⟩ => fun t X => Filled (seg11 m c) t X
  | _ => fun _ _ => True

/-- What each exact window holds after point `t`; the entries of the marked windows are not read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 4 t) (iblk m c 5 t) (iblk m c 6 t)
    | ⟨8, _⟩ => out8 (iblk m c 0 t) (iblk m c 1 t) (iblk m c 2 t)
    | ⟨9, _⟩ => iblk m c 9 t
    | ⟨10, _⟩ => out10 (iblk m c 0 t) (iblk m c 1 t) (iblk m c 2 t) (iblk m c 3 t) (iblk m c 4 t) (iblk m c 5 t) (iblk m c 6 t)
    | ⟨11, _⟩ => iblk m c 11 t
    | ⟨12, _⟩ => iblk m c 12 t
    | ⟨13, _⟩ => iblk m c 13 t
    | ⟨_ + 14, h⟩ => absurd h (Nat.not_lt.2 (Nat.le_add_left _ _))
  Φ _ := Pipeline.ΦA spec0 c
  q _ := fullShare
  owed _ := 0

/-- The data of the run. -/
def rdat (c : Dev nD) : Pipeline.RDat τ (Elt F) Unit ℕ (UR sig nD τ) ℕ cfg0 c := (dats m 0 c).toRRel marked (Rl m c)

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = iblk m c 3 t := rfl
theorem after4 (c : Dev nD) (t : Fin cfg0.N) : (dats m 0 c).after 4 t = iblk m c 4 t := rfl
theorem after5 (c : Dev nD) (t : Fin cfg0.N) : (dats m 0 c).after 5 t = iblk m c 5 t := rfl
theorem after6 (c : Dev nD) (t : Fin cfg0.N) : (dats m 0 c).after 6 t = iblk m c 6 t := rfl
theorem after7 (c : Dev nD) (t : Fin cfg0.N) : (dats m 0 c).after 7 t = out7 (iblk m c 0 t) (iblk m c 1 t) (iblk m c 2 t) (iblk m c 4 t) (iblk m c 5 t) (iblk m c 6 t) := rfl
theorem after8 (c : Dev nD) (t : Fin cfg0.N) : (dats m 0 c).after 8 t = out8 (iblk m c 0 t) (iblk m c 1 t) (iblk m c 2 t) := rfl
theorem after10 (c : Dev nD) (t : Fin cfg0.N) : (dats m 0 c).after 10 t = out10 (iblk m c 0 t) (iblk m c 1 t) (iblk m c 2 t) (iblk m c 3 t) (iblk m c 4 t) (iblk m c 5 t) (iblk m c 6 t) := rfl
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body finds in a marked window, after the first point, is what the previous point left. -/
theorem finds_prev (c : Dev nD) (w : Fin cfg0.W) (hm : marked w = true) (t : Fin cfg0.N) (ht : t.val ≠ 0)
    (hf : (cfg0.win w).fetch t = false)
    (hfl : (cfg0.win w).flush ⟨t.val - 1, Nat.lt_of_le_of_lt (Nat.sub_le _ _) t.isLt⟩ = true → False)
    (Y) (h : (rdat m c).Finds w t Y) : Rl m c w ⟨t.val - 1, Nat.lt_of_le_of_lt (Nat.sub_le _ _) t.isLt⟩ Y := by
  rcases ((rdat m c).finds_of_pos hf ht Y).mp h with h | h
  · exact (hfl h).elim
  · exact (dats m 0 c).toRRel_leaves hm h

theorem rl12 (c : Dev nD) (t : Fin cfg0.N) (X) : Rl m c 12 t X := True.intro
theorem rl13 (c : Dev nD) (t : Fin cfg0.N) (X) : Rl m c 13 t X := True.intro

/-- So one more segment is filled. -/
theorem step9 (c : Dev nD) (t : Fin cfg0.N) (Y : S12x2048.Idx → Elt F .f32) (hY : (rdat m c).Finds 9 t Y) (X : S12x2048.Idx → Elt F .f32)
    (hX : Overwrites (grid0.coords t) Y X (seg9 m c t)) : Rl m c 9 t X := by
  have hN : t.val < 48 := t.isLt
  exact filled_step (seg9 m c) t Y X (fun h => finds_prev m c 9 rfl t h rfl
    (fun hf => by have := (flush0_9 _).mp hf; dsimp only at this; omega) Y hY) hX
theorem step11 (c : Dev nD) (t : Fin cfg0.N) (Y : S12x2048.Idx → Elt F .f32) (hY : (rdat m c).Finds 11 t Y) (X : S12x2048.Idx → Elt F .f32)
    (hX : Overwrites (grid0.coords t) Y X (seg11 m c t)) : Rl m c 11 t X := by
  have hN : t.val < 48 := t.isLt
  exact filled_step (seg11 m c) t Y X (fun h => finds_prev m c 11 rfl t h rfl
    (fun hf => by have := (flush0_11 _).mp hf; dsimp only at this; omega) Y hY) hX

/-- A scratch row, as the region keeps it and as the body takes it. -/
theorem scratch_in0 (c : Dev nD) (f : Buf (Elt F) ((c : Thread nD τ).loc cc0_scratch0)) :
    ((((c : Thread nD τ).loc cc0_scratch0) ↦{fullShare} f) : sProp 𝕄)
      ⊢ iprop(∃ d, owns (c : Thread nD τ) (Memref.whole cc0_scratch0) fullShare d) := by
  rw [← owns_whole (c : Thread nD τ) cc0_scratch0 fullShare f]
  iintro H; iexists f; iexact H
theorem scratch_out0 (c : Dev nD) (d) :
    (owns (c : Thread nD τ) (Memref.whole cc0_scratch0) fullShare d : sProp 𝕄)
      ⊢ iprop(∃ f : Buf (Elt F) ((c : Thread nD τ).loc cc0_scratch0), ((c : Thread nD τ).loc cc0_scratch0) ↦{fullShare} f) := by
  rw [owns_whole (c : Thread nD τ) cc0_scratch0 fullShare d]
  iintro H; iexists d; iexact H
theorem scratch_in1 (c : Dev nD) (f : Buf (Elt F) ((c : Thread nD τ).loc cc0_scratch1)) :
    ((((c : Thread nD τ).loc cc0_scratch1) ↦{fullShare} f) : sProp 𝕄)
      ⊢ iprop(∃ d, owns (c : Thread nD τ) (Memref.whole cc0_scratch1) fullShare d) := by
  rw [← owns_whole (c : Thread nD τ) cc0_scratch1 fullShare f]
  iintro H; iexists f; iexact H
theorem scratch_out1 (c : Dev nD) (d) :
    (owns (c : Thread nD τ) (Memref.whole cc0_scratch1) fullShare d : sProp 𝕄)
      ⊢ iprop(∃ f : Buf (Elt F) ((c : Thread nD τ).loc cc0_scratch1), ((c : Thread nD τ).loc cc0_scratch1) ↦{fullShare} f) := by
  rw [owns_whole (c : Thread nD τ) cc0_scratch1 fullShare d]
  iintro H; iexists d; iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ Y, ⌜(rdat m c).Finds 9 t Y⌝ ∗ owns (c : Thread nD τ) (st0_9 t) fullShare Y)
    ∗ (∃ d, owns (c : Thread nD τ) (st0_10 t) fullShare ((dats m 0 c).before 10 t d))
    ∗ (∃ Y, ⌜(rdat m c).Finds 11 t Y⌝ ∗ owns (c : Thread nD τ) (st0_11 t) fullShare Y)
    ∗ (∃ Y, ⌜(rdat m c).Finds 12 t Y⌝ ∗ owns (c : Thread nD τ) (st0_12 t) fullShare Y)
    ∗ (∃ Y, ⌜(rdat m c).Finds 13 t Y⌝ ∗ owns (c : Thread nD τ) (st0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, ⌜Rl m c 9 t X⌝ ∗ owns (c : Thread nD τ) (st0_9 t) fullShare X)
    ∗ owns (c : Thread nD τ) (st0_10 t) fullShare ((dats m 0 c).after 10 t)
    ∗ (∃ X, ⌜Rl m c 11 t X⌝ ∗ owns (c : Thread nD τ) (st0_11 t) fullShare X)
    ∗ (∃ X, ⌜Rl m c 12 t X⌝ ∗ owns (c : Thread nD τ) (st0_12 t) fullShare X)
    ∗ (∃ X, ⌜Rl m c 13 t X⌝ ∗ owns (c : Thread nD τ) (st0_13 t) fullShare X))

-- values and relations are compared by name, never unfolded
attribute [local irreducible] out7 out8 out10 row9 row11 iblk Pipeline.RDat.Finds Rl Overwrites

set_option maxHeartbeats 400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after8, after10]
  unfold Pipeline.ΦA
  rw [scopedRest0_eq]
  iintro ⟨⟨⟨⟨%g0, Hs0⟩, ⟨%g1, Hs1⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%d10, H10⟩, ⟨%Y11, %hY11, H11⟩, ⟨%Y12, %hY12, H12⟩, ⟨%Y13, %hY13, H13⟩⟩
  iapply (sound c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y9 Y11 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexists _; iexact H10
  isplitl [H11]; · iexact H11
  isplitl [H12]; · iexists _; iexact H12
  isplitl [H13]; · iexists _; iexact H13
  isplitl [Hs0]; · iapply scratch_in0; iexact Hs0
  isplitl [Hs1]; · iapply scratch_in1; iexact Hs1
  iintro ⟨H0, H1, H2, H3, H4, H5, H6, H7, H8, ⟨%X9, %hX9, H9⟩, H10, ⟨%X11, %hX11, H11⟩, ⟨%X12, H12⟩, ⟨%X13, H13⟩, ⟨%e0, Hs0⟩, ⟨%e1, Hs1⟩⟩
  isplitl [Hs0 Hs1 Hr]
  · isplitl [Hs0 Hs1]
    · isplitl [Hs0]
      · iapply scratch_out0; iexact Hs0
      · iapply scratch_out1; iexact Hs1
    · iexact Hr
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists X9; isplitr
    · ipureintro; exact step9 m c t Y9 hY9 X9 hX9
    iexact H9
  isplitl [H10]
  · iexact H10
  isplitl [H11]
  · iexists X11; isplitr
    · ipureintro; exact step11 m c t Y11 hY11 X11 hX11
    iexact H11
  isplitl [H12]
  · iexists X12; isplitr
    · ipureintro; exact rl12 m c t X12
    iexact H12
  iexists X13; isplitr
  · ipureintro; exact rl13 m c t X13
  iexact H13

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

set_option backward.isDefEq.respectTransparency.types false in
set_option maxHeartbeats 800000 in
/-- The run: it ends, every semaphore back at zero, and every array at contents its data allow. -/
theorem run_main : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (hQ' := fun _ h => h)

/-- Every argument is left as it was. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((congrFun ((rdat m c).ArrAt_in 0 rfl _) _).mp ((h.1 c).1 0)).trans ((A_eq m c 0).trans (V_main_arg0 m c)),
    ((congrFun ((rdat m c).ArrAt_in 1 rfl _) _).mp ((h.1 c).1 1)).trans ((A_eq m c 1).trans (V_main_arg1 m c)),
    ((congrFun ((rdat m c).ArrAt_in 2 rfl _) _).mp ((h.1 c).1 2)).trans ((A_eq m c 2).trans (V_main_arg2 m c)),
    ((congrFun ((rdat m c).ArrAt_in 3 rfl _) _).mp ((h.1 c).1 3)).trans ((A_eq m c 3).trans (V_main_arg3 m c)),
    ((congrFun ((rdat m c).ArrAt_in 4 rfl _) _).mp ((h.1 c).1 4)).trans ((A_eq m c 4).trans (V_main_arg4 m c)),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩) (run_main m ρ)

end Cert.Kernel.Attn

end
-- ==== Proof.KernelIdealBody.lean ====
/-
  The body of the attention call at one grid point: what each of its windows holds afterwards, as a function of the
  blocks it was called with. The four windows that keep a whole array in place are described by what they held before:
  a row segment (or a row) is overwritten and every other entry stays.
-/
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Pipeline.DatRel
public import Idealize.ShloMosaic.Lib.Pipeline.ArrRel
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The whole of a block of 512 tokens. -/
abbrev rTok : Rect S1x512x512 := Rect.unit (s := S1x512x512) ![0, 0, 0] S1x512x512.size inb_S1x512x512_S1x512x512_0_0_0
/-- The whole of an image. -/
abbrev rImg : Rect S1x2048x512 := Rect.unit (s := S1x2048x512) ![0, 0, 0] S1x2048x512.size inb_S1x2048x512_S1x2048x512_0_0_0
/-- The whole of the weight matrix. -/
abbrev rMat : Rect S512x512 := Rect.unit (s := S512x512) ![0, 0] S512x512.size inb_S512x512_S512x512_0_0
/-- The whole of a row of 512 numbers. -/
abbrev rRow : Rect S1x512 := Rect.unit (s := S1x512) ![0, 0] S1x512.size inb_S1x512_S1x512_0_0
/-- The segment of the per-token array that a grid point fills. -/
abbrev rSeg (i : grid0.Coords) : Rect S12x2048 := Rect.unit (s := S12x2048) (k0_off1 i) S1x512.size (k0_off1_inb i)

section Values

variable (x0 : Vec F S1x512x512 .bf16) (x1 x2 : Vec F S1x2048x512 .bf16) (x3 : Vec F S1x512x512 .bf16)
  (x4 : Vec F S512x512 .fp8e4m3) (x5 x6 : Vec F S1x512 .f32)

/-- The attention output of the block. -/
def vO : FVec F S512x512 .f32 := k0_pay2 (View.ld x0 rTok) (View.ld x1 rImg) (View.ld x2 rImg)
/-- The threshold of its quantiser, per token: the largest magnitude over 448. -/
def vT : FVec F S512x1 .f32 := k0_pay3 (View.ld x0 rTok) (View.ld x1 rImg) (View.ld x2 rImg)
/-- Its scale, per token. -/
def vScale : FVec F S512x1 .f32 := k0_pay8 (vT x0 x1 x2) k0_pay4 k0_pay5
/-- Its codes. -/
def vCodes : FVec F S512x512 .fp8e4m3 := k0_pay9 (vO x0 x1 x2) (vT x0 x1 x2) k0_pay4 k0_pay5
/-- The output projection of the codes. -/
def vProj : FVec F S512x512 .f32 :=
  k0_pay15 (vScale x0 x1 x2) (vCodes x0 x1 x2) (View.ld x4 rMat) (View.ld x5 rRow) (View.ld x6 rRow)
/-- The block of the projection result. -/
def out7 : Vec F S1x512x512 .bf16 :=
  k0_pay16 (vScale x0 x1 x2) (vCodes x0 x1 x2) (View.ld x4 rMat) (View.ld x5 rRow) (View.ld x6 rRow)
/-- The block of the attention codes. -/
def out8 : Vec F S1x512x512 .fp8e4m3 := k0_pay10 (vO x0 x1 x2) (vT x0 x1 x2) k0_pay4 k0_pay5
/-- The segment of the attention scales. -/
def row9 : Vec F S1x512 .f32 :=
  k0_pay14 (vScale x0 x1 x2) k0_pay11 (k0_pay12 (vT x0 x1 x2) k0_pay4 k0_pay5) (k0_pay13 (vT x0 x1 x2) k0_pay4 k0_pay5)
    (Scalar.ofBits .f32 0x00000000#32)
/-- The block of the residual codes. -/
def out10 : Vec F S1x512x512 .fp8e4m3 := k0_pay23 (k0_pay22 (vProj x0 x1 x2 x4 x5 x6) (k0_pay17 (View.ld x3 rTok)))
/-- The segment of the residual scales. -/
def row11 : Vec F S1x512 .f32 := k0_pay24 (k0_pay21 (vProj x0 x1 x2 x4 x5 x6) (k0_pay17 (View.ld x3 rTok)))

end Values

/-- One whole-block store covers the block. -/
theorem coverTok {e : EltTy} (p : S1x512x512.Idx → Elt F e) (y : S1x512x512.Idx) :
    ∃ q ∈ [(⟨rTok, p⟩ : View.Piece (Elt F) S1x512x512 e)], y ∈ q.1.set :=
  ⟨_, List.mem_singleton_self _, View.mem_set_unit_zero (by funext a; fin_cases a <;> rfl) inb_S1x512x512_S1x512x512_0_0_0 y⟩

/-- and leaves its payload. -/
theorem canonTok {e : EltTy} (p : S1x512x512.Idx → Elt F e) : View.canon [(⟨rTok, p⟩ : View.Piece (Elt F) S1x512x512 e)] = p :=
  View.canon_unit_zero (by funext a; fin_cases a <;> rfl) inb_S1x512x512_S1x512x512_0_0_0 p

/-- What one store to the segment leaves of an array that held `X`. -/
def Overwrites (i : grid0.Coords) (X X' : S12x2048.Idx → Elt F .f32) (row : S1x512.Idx → Elt F .f32) : Prop :=
  (∀ x : S1x512.Idx, X' ((rSeg i).emb x) = row x) ∧ ∀ y, y ∉ (rSeg i).set → X' y = X y

theorem overwrites_of {κ : Kind} {sp : Space} (v : View sig κ sp S12x2048 .f32) (f : v.ty.Contents (Elt F)) (i : grid0.Coords)
    (row : S1x512.Idx → Elt F .f32) :
    Overwrites i (v.read (Elt F) f) (v.read (Elt F) (v.writes (Elt F) f [(⟨rSeg i, row⟩ : View.Piece (Elt F) S12x2048 .f32)])) row :=
  ⟨fun x => View.read_writes_cons_emb v f (rSeg i) row [] x, fun y hy => View.read_writes_cons_miss v f _ [] y hy⟩

-- the payloads are compared by name, never unfolded
attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57

set_option maxHeartbeats 400000 in
/-- The body's triple. -/
theorem sound (c : Dev nD) (E : Set ℕ) (i : grid0.Coords)
    (arg2 : Memref sig .tc .vmem S1x512x512 .bf16) (harg2 : arg2.IsWhole) (arg3 : Memref sig .tc .vmem S1x2048x512 .bf16) (harg3 : arg3.IsWhole)
    (arg4 : Memref sig .tc .vmem S1x2048x512 .bf16) (harg4 : arg4.IsWhole) (arg5 : Memref sig .tc .vmem S1x512x512 .bf16) (harg5 : arg5.IsWhole)
    (arg6 : Memref sig .tc .vmem S512x512 .fp8e4m3) (harg6 : arg6.IsWhole) (arg7 : Memref sig .tc .vmem S1x512 .f32) (harg7 : arg7.IsWhole)
    (arg8 : Memref sig .tc .vmem S1x512 .f32) (harg8 : arg8.IsWhole) (arg9 : Memref sig .tc .vmem S1x512x512 .bf16) (harg9 : arg9.IsWhole)
    (arg10 : Memref sig .tc .vmem S1x512x512 .fp8e4m3) (harg10 : arg10.IsWhole) (arg11 : Memref sig .tc .vmem S12x2048 .f32) (harg11 : arg11.IsWhole)
    (arg12 : Memref sig .tc .vmem S1x512x512 .fp8e4m3) (harg12 : arg12.IsWhole) (arg13 : Memref sig .tc .vmem S12x2048 .f32) (harg13 : arg13.IsWhole)
    (arg14 : Memref sig .tc .vmem S12x512 .f32) (harg14 : arg14.IsWhole) (arg15 : Memref sig .tc .vmem S12x512 .f32) (harg15 : arg15.IsWhole)
    (arg16 : Memref sig .tc .vmem S1x512 .f32) (harg16 : arg16.IsWhole) (arg17 : Memref sig .tc .vmem S1x512 .f32) (harg17 : arg17.IsWhole)
    (x0 : Vec F S1x512x512 .bf16) (x1 x2 : Vec F S1x2048x512 .bf16) (x3 : Vec F S1x512x512 .bf16)
    (x4 : Vec F S512x512 .fp8e4m3) (x5 x6 : Vec F S1x512 .f32) (x9 x11 : Vec F S12x2048 .f32) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6
      ∗ (∃ d, owns (c : Thread nD τ) arg9 fullShare d) ∗ (∃ d, owns (c : Thread nD τ) arg10 fullShare d)
      ∗ owns (c : Thread nD τ) arg11 fullShare x9 ∗ (∃ d, owns (c : Thread nD τ) arg12 fullShare d) ∗ owns (c : Thread nD τ) arg13 fullShare x11
      ∗ (∃ d, owns (c : Thread nD τ) arg14 fullShare d) ∗ (∃ d, owns (c : Thread nD τ) arg15 fullShare d)
      ∗ (∃ d, owns (c : Thread nD τ) arg16 fullShare d) ∗ (∃ d, owns (c : Thread nD τ) arg17 fullShare d)
      ∗ ((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
        ∗ owns (c : Thread nD τ) arg9 fullShare (out7 x0 x1 x2 x4 x5 x6) ∗ owns (c : Thread nD τ) arg10 fullShare (out8 x0 x1 x2)
        ∗ (∃ X, ⌜Overwrites i x9 X (row9 x0 x1 x2)⌝ ∗ owns (c : Thread nD τ) arg11 fullShare X)
        ∗ owns (c : Thread nD τ) arg12 fullShare (out10 x0 x1 x2 x3 x4 x5 x6)
        ∗ (∃ X, ⌜Overwrites i x11 X (row11 x0 x1 x2 x3 x4 x5 x6)⌝ ∗ owns (c : Thread nD τ) arg13 fullShare X)
        ∗ (∃ d, owns (c : Thread nD τ) arg14 fullShare d) ∗ (∃ d, owns (c : Thread nD τ) arg15 fullShare d)
        ∗ (∃ d, owns (c : Thread nD τ) arg16 fullShare d) ∗ (∃ d, owns (c : Thread nD τ) arg17 fullShare d)) -∗ K PUnit.unit))
    ⊢ wp frame (wpE (defs₀ (F := F)) Variants.none c none) E
        (cc0_attn i arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17) K := by
  simp only [cc0_attn_eq_skeleton]
  unfold cc0_attn_skel
  simp only [k0_part13_eq_skeleton]
  unfold k0_part13_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel
    k0_part10_skel k0_part11_skel k0_part12_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%f9, %hf9, H9⟩, ⟨%d10, %f10, -, H10⟩, ⟨%f11, %hf11, H11⟩, ⟨%d12, %f12, -, H12⟩, ⟨%d13, %f13, -, H13⟩,
    ⟨%d14, %f14, -, H14⟩, ⟨%d15, %f15, -, H15⟩, Hk⟩
  subst hf0 hf1 hf2 hf3 hf4 hf5 hf6 hf9 hf11
  by_cases hc : k0_cond1 i = 1#1
  all_goals
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr
      swap; · iexact H7
      ipureintro
      refine (View.read_writes_eq_canon _ _ _ (coverTok _)).trans ?_
      refine (canonTok _).trans ?_
      rfl
    isplitl [H8]
    · iexists _; isplitr
      swap; · iexact H8
      ipureintro
      refine (View.read_writes_eq_canon _ _ _ (coverTok _)).trans ?_
      refine (canonTok _).trans ?_
      rfl
    isplitl [H9]
    · iexists _; isplitr
      swap
      · iexists _; isplitr
        swap; · iexact H9
        ipureintro; rfl
      ipureintro
      exact overwrites_of _ _ _ _
    isplitl [H10]
    · iexists _; isplitr
      swap; · iexact H10
      ipureintro
      refine (View.read_writes_eq_canon _ _ _ (coverTok _)).trans ?_
      refine (canonTok _).trans ?_
      rfl
    isplitl [H11]
    · iexists _; isplitr
      swap
      · iexists _; isplitr
        swap; · iexact H11
        ipureintro; rfl
      ipureintro
      exact overwrites_of _ _ _ _
    isplitl [H12]
    · iexists _; iexists _; isplitr
      swap; · iexact H12
      ipureintro; rfl
    isplitl [H13]
    · iexists _; iexists _; isplitr
      swap; · iexact H13
      ipureintro; rfl
    isplitl [H14]
    · iexists _; iexists _; isplitr
      swap; · iexact H14
      ipureintro; rfl
    iexists _; iexists _; isplitr
    swap; · iexact H15
    ipureintro; rfl

end Cert.KernelIdeal.Attn

end
-- ==== Proof.KernelIdealRun.lean ====
/-
  The attention call over its grid. The exact windows hold, after each point, the values of that point's blocks. The two
  per-token arrays stay in place over the whole grid: after a point, every segment filled so far holds its scales. The two
  statistics arrays and the scratch rows are left unspecified. From this follow the run, and that it leaves every argument
  as it was.
-/
module

public import proofs.«01_k».proof.Proof.KernelIdealBody

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows held to a relation. -/
def marked : Fin 14 → Bool := fun w => match w with | ⟨9, _⟩ => true | ⟨11, _⟩ => true | ⟨12, _⟩ => true | ⟨13, _⟩ => true | _ => false

/-- The segment of attention scales that point `t` writes. -/
def seg9 (c : Dev nD) (t : Fin cfg0.N) : S1x512.Idx → Elt F .f32 := row9 (iblk m c 0 t) (iblk m c 1 t) (iblk m c 2 t)
/-- The segment of residual scales that point `t` writes. -/
def seg11 (c : Dev nD) (t : Fin cfg0.N) : S1x512.Idx → Elt F .f32 := row11 (iblk m c 0 t) (iblk m c 1 t) (iblk m c 2 t) (iblk m c 3 t) (iblk m c 4 t) (iblk m c 5 t) (iblk m c 6 t)

/-- Every segment filled up to point `t` holds its row. -/
def Filled (row : Fin cfg0.N → S1x512.Idx → Elt F .f32) (t : Fin cfg0.N) (X : S12x2048.Idx → Elt F .f32) : Prop :=
  ∀ t' : Fin cfg0.N, t'.val ≤ t.val → ∀ x : S1x512.Idx, X ((rSeg (grid0.coords t')).emb x) = row t' x

/-- Where point `t`'s segment starts. -/
theorem off_eq : ∀ t : Fin 48, k0_off1 (grid0.coords t) 0 = t.val / 4 ∧ k0_off1 (grid0.coords t) 1 = t.val % 4 * 512 := by
  decide +kernel

/-- The segments of two points do not meet. -/
theorem seg_disjoint (t t' : Fin cfg0.N) (h : t'.val ≠ t.val) (x : S1x512.Idx) :
    (rSeg (grid0.coords t')).emb x ∉ (rSeg (grid0.coords t)).set := by
  have h1 := off_eq t
  have h2 := off_eq t'
  have hx : (x 1).val < 512 := (x 1).isLt
  have hx0 : (x 0).val < 1 := (x 0).isLt
  have e0 : ((rSeg (grid0.coords t')).emb x 0).val = k0_off1 (grid0.coords t') 0 + 1 * (x 0).val := rfl
  have e1 : ((rSeg (grid0.coords t')).emb x 1).val = k0_off1 (grid0.coords t') 1 + 1 * (x 1).val := rfl
  by_cases h4 : t'.val / 4 = t.val / 4
  · refine (rSeg (grid0.coords t)).not_mem_set_of_axis _ 1 _ 512 h1.2 rfl rfl ?_
    rw [e1, h2.2]; omega
  · refine (rSeg (grid0.coords t)).not_mem_set_of_axis _ 0 _ 1 h1.1 rfl rfl ?_
    rw [e0, h2.1]; omega

/-- One more segment written over an array whose earlier segments are filled. -/
theorem filled_step (row : Fin cfg0.N → S1x512.Idx → Elt F .f32) (t : Fin cfg0.N) (Y X : S12x2048.Idx → Elt F .f32)
    (hY : ∀ h : t.val ≠ 0, Filled row ⟨t.val - 1, Nat.lt_of_le_of_lt (Nat.sub_le _ _) t.isLt⟩ Y)
    (hX : Overwrites (grid0.coords t) Y X (row t)) : Filled row t X := by
  intro t' ht' x
  by_cases h : t' = t
  · subst h; exact hX.1 x
  · have hne : t'.val ≠ t.val := fun e => h (Fin.ext e)
    rw [hX.2 _ (seg_disjoint t t' hne x)]
    exact hY (by omega) t' (by show t'.val ≤ t.val - 1; omega) x

/-- What a marked window holds after point `t`. -/
def Rl (c : Dev nD) : (w : Fin cfg0.W) → Fin cfg0.N → ((cfg0.win w).block.Idx → Elt F (cfg0.win w).elt) → Prop := fun w =>
  match w with
  | ⟨9, _⟩ => fun t X => Filled (seg9 m c) t X
  | ⟨11, _⟩ => fun t X => Filled (seg11 m c) t X
  | _ => fun _ _ => True

/-- What each exact window holds after point `t`; the entries of the marked windows are not read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 4 t) (iblk m c 5 t) (iblk m c 6 t)
    | ⟨8, _⟩ => out8 (iblk m c 0 t) (iblk m c 1 t) (iblk m c 2 t)
    | ⟨9, _⟩ => iblk m c 9 t
    | ⟨10, _⟩ => out10 (iblk m c 0 t) (iblk m c 1 t) (iblk m c 2 t) (iblk m c 3 t) (iblk m c 4 t) (iblk m c 5 t) (iblk m c 6 t)
    | ⟨11, _⟩ => iblk m c 11 t
    | ⟨12, _⟩ => iblk m c 12 t
    | ⟨13, _⟩ => iblk m c 13 t
    | ⟨_ + 14, h⟩ => absurd h (Nat.not_lt.2 (Nat.le_add_left _ _))
  Φ _ := Pipeline.ΦA spec0 c
  q _ := fullShare
  owed _ := 0

/-- The data of the run. -/
def rdat (c : Dev nD) : Pipeline.RDat τ (Elt F) Unit ℕ (UR sig nD τ) ℕ cfg0 c := (dats m 0 c).toRRel marked (Rl m c)

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = iblk m c 3 t := rfl
theorem after4 (c : Dev nD) (t : Fin cfg0.N) : (dats m 0 c).after 4 t = iblk m c 4 t := rfl
theorem after5 (c : Dev nD) (t : Fin cfg0.N) : (dats m 0 c).after 5 t = iblk m c 5 t := rfl
theorem after6 (c : Dev nD) (t : Fin cfg0.N) : (dats m 0 c).after 6 t = iblk m c 6 t := rfl
theorem after7 (c : Dev nD) (t : Fin cfg0.N) : (dats m 0 c).after 7 t = out7 (iblk m c 0 t) (iblk m c 1 t) (iblk m c 2 t) (iblk m c 4 t) (iblk m c 5 t) (iblk m c 6 t) := rfl
theorem after8 (c : Dev nD) (t : Fin cfg0.N) : (dats m 0 c).after 8 t = out8 (iblk m c 0 t) (iblk m c 1 t) (iblk m c 2 t) := rfl
theorem after10 (c : Dev nD) (t : Fin cfg0.N) : (dats m 0 c).after 10 t = out10 (iblk m c 0 t) (iblk m c 1 t) (iblk m c 2 t) (iblk m c 3 t) (iblk m c 4 t) (iblk m c 5 t) (iblk m c 6 t) := rfl
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body finds in a marked window, after the first point, is what the previous point left. -/
theorem finds_prev (c : Dev nD) (w : Fin cfg0.W) (hm : marked w = true) (t : Fin cfg0.N) (ht : t.val ≠ 0)
    (hf : (cfg0.win w).fetch t = false)
    (hfl : (cfg0.win w).flush ⟨t.val - 1, Nat.lt_of_le_of_lt (Nat.sub_le _ _) t.isLt⟩ = true → False)
    (Y) (h : (rdat m c).Finds w t Y) : Rl m c w ⟨t.val - 1, Nat.lt_of_le_of_lt (Nat.sub_le _ _) t.isLt⟩ Y := by
  rcases ((rdat m c).finds_of_pos hf ht Y).mp h with h | h
  · exact (hfl h).elim
  · exact (dats m 0 c).toRRel_leaves hm h

theorem rl12 (c : Dev nD) (t : Fin cfg0.N) (X) : Rl m c 12 t X := True.intro
theorem rl13 (c : Dev nD) (t : Fin cfg0.N) (X) : Rl m c 13 t X := True.intro

/-- So one more segment is filled. -/
theorem step9 (c : Dev nD) (t : Fin cfg0.N) (Y : S12x2048.Idx → Elt F .f32) (hY : (rdat m c).Finds 9 t Y) (X : S12x2048.Idx → Elt F .f32)
    (hX : Overwrites (grid0.coords t) Y X (seg9 m c t)) : Rl m c 9 t X := by
  have hN : t.val < 48 := t.isLt
  exact filled_step (seg9 m c) t Y X (fun h => finds_prev m c 9 rfl t h rfl
    (fun hf => by have := (flush0_9 _).mp hf; dsimp only at this; omega) Y hY) hX
theorem step11 (c : Dev nD) (t : Fin cfg0.N) (Y : S12x2048.Idx → Elt F .f32) (hY : (rdat m c).Finds 11 t Y) (X : S12x2048.Idx → Elt F .f32)
    (hX : Overwrites (grid0.coords t) Y X (seg11 m c t)) : Rl m c 11 t X := by
  have hN : t.val < 48 := t.isLt
  exact filled_step (seg11 m c) t Y X (fun h => finds_prev m c 11 rfl t h rfl
    (fun hf => by have := (flush0_11 _).mp hf; dsimp only at this; omega) Y hY) hX

/-- A scratch row, as the region keeps it and as the body takes it. -/
theorem scratch_in0 (c : Dev nD) (f : Buf (Elt F) ((c : Thread nD τ).loc cc0_scratch0)) :
    ((((c : Thread nD τ).loc cc0_scratch0) ↦{fullShare} f) : sProp 𝕄)
      ⊢ iprop(∃ d, owns (c : Thread nD τ) (Memref.whole cc0_scratch0) fullShare d) := by
  rw [← owns_whole (c : Thread nD τ) cc0_scratch0 fullShare f]
  iintro H; iexists f; iexact H
theorem scratch_out0 (c : Dev nD) (d) :
    (owns (c : Thread nD τ) (Memref.whole cc0_scratch0) fullShare d : sProp 𝕄)
      ⊢ iprop(∃ f : Buf (Elt F) ((c : Thread nD τ).loc cc0_scratch0), ((c : Thread nD τ).loc cc0_scratch0) ↦{fullShare} f) := by
  rw [owns_whole (c : Thread nD τ) cc0_scratch0 fullShare d]
  iintro H; iexists d; iexact H
theorem scratch_in1 (c : Dev nD) (f : Buf (Elt F) ((c : Thread nD τ).loc cc0_scratch1)) :
    ((((c : Thread nD τ).loc cc0_scratch1) ↦{fullShare} f) : sProp 𝕄)
      ⊢ iprop(∃ d, owns (c : Thread nD τ) (Memref.whole cc0_scratch1) fullShare d) := by
  rw [← owns_whole (c : Thread nD τ) cc0_scratch1 fullShare f]
  iintro H; iexists f; iexact H
theorem scratch_out1 (c : Dev nD) (d) :
    (owns (c : Thread nD τ) (Memref.whole cc0_scratch1) fullShare d : sProp 𝕄)
      ⊢ iprop(∃ f : Buf (Elt F) ((c : Thread nD τ).loc cc0_scratch1), ((c : Thread nD τ).loc cc0_scratch1) ↦{fullShare} f) := by
  rw [owns_whole (c : Thread nD τ) cc0_scratch1 fullShare d]
  iintro H; iexists d; iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ Y, ⌜(rdat m c).Finds 9 t Y⌝ ∗ owns (c : Thread nD τ) (st0_9 t) fullShare Y)
    ∗ (∃ d, owns (c : Thread nD τ) (st0_10 t) fullShare ((dats m 0 c).before 10 t d))
    ∗ (∃ Y, ⌜(rdat m c).Finds 11 t Y⌝ ∗ owns (c : Thread nD τ) (st0_11 t) fullShare Y)
    ∗ (∃ Y, ⌜(rdat m c).Finds 12 t Y⌝ ∗ owns (c : Thread nD τ) (st0_12 t) fullShare Y)
    ∗ (∃ Y, ⌜(rdat m c).Finds 13 t Y⌝ ∗ owns (c : Thread nD τ) (st0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, ⌜Rl m c 9 t X⌝ ∗ owns (c : Thread nD τ) (st0_9 t) fullShare X)
    ∗ owns (c : Thread nD τ) (st0_10 t) fullShare ((dats m 0 c).after 10 t)
    ∗ (∃ X, ⌜Rl m c 11 t X⌝ ∗ owns (c : Thread nD τ) (st0_11 t) fullShare X)
    ∗ (∃ X, ⌜Rl m c 12 t X⌝ ∗ owns (c : Thread nD τ) (st0_12 t) fullShare X)
    ∗ (∃ X, ⌜Rl m c 13 t X⌝ ∗ owns (c : Thread nD τ) (st0_13 t) fullShare X))

-- values and relations are compared by name, never unfolded
attribute [local irreducible] out7 out8 out10 row9 row11 iblk Pipeline.RDat.Finds Rl Overwrites

set_option maxHeartbeats 400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after8, after10]
  unfold Pipeline.ΦA
  rw [scopedRest0_eq]
  iintro ⟨⟨⟨⟨%g0, Hs0⟩, ⟨%g1, Hs1⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%d10, H10⟩, ⟨%Y11, %hY11, H11⟩, ⟨%Y12, %hY12, H12⟩, ⟨%Y13, %hY13, H13⟩⟩
  iapply (sound c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y9 Y11 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexists _; iexact H10
  isplitl [H11]; · iexact H11
  isplitl [H12]; · iexists _; iexact H12
  isplitl [H13]; · iexists _; iexact H13
  isplitl [Hs0]; · iapply scratch_in0; iexact Hs0
  isplitl [Hs1]; · iapply scratch_in1; iexact Hs1
  iintro ⟨H0, H1, H2, H3, H4, H5, H6, H7, H8, ⟨%X9, %hX9, H9⟩, H10, ⟨%X11, %hX11, H11⟩, ⟨%X12, H12⟩, ⟨%X13, H13⟩, ⟨%e0, Hs0⟩, ⟨%e1, Hs1⟩⟩
  isplitl [Hs0 Hs1 Hr]
  · isplitl [Hs0 Hs1]
    · isplitl [Hs0]
      · iapply scratch_out0; iexact Hs0
      · iapply scratch_out1; iexact Hs1
    · iexact Hr
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists X9; isplitr
    · ipureintro; exact step9 m c t Y9 hY9 X9 hX9
    iexact H9
  isplitl [H10]
  · iexact H10
  isplitl [H11]
  · iexists X11; isplitr
    · ipureintro; exact step11 m c t Y11 hY11 X11 hX11
    iexact H11
  isplitl [H12]
  · iexists X12; isplitr
    · ipureintro; exact rl12 m c t X12
    iexact H12
  iexists X13; isplitr
  · ipureintro; exact rl13 m c t X13
  iexact H13

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

set_option backward.isDefEq.respectTransparency.types false in
set_option maxHeartbeats 800000 in
/-- The run: it ends, every semaphore back at zero, and every array at contents its data allow. -/
theorem run_main : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (hQ' := fun _ h => h)

/-- Every argument is left as it was. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((congrFun ((rdat m c).ArrAt_in 0 rfl _) _).mp ((h.1 c).1 0)).trans ((A_eq m c 0).trans (V_main_arg0 m c)),
    ((congrFun ((rdat m c).ArrAt_in 1 rfl _) _).mp ((h.1 c).1 1)).trans ((A_eq m c 1).trans (V_main_arg1 m c)),
    ((congrFun ((rdat m c).ArrAt_in 2 rfl _) _).mp ((h.1 c).1 2)).trans ((A_eq m c 2).trans (V_main_arg2 m c)),
    ((congrFun ((rdat m c).ArrAt_in 3 rfl _) _).mp ((h.1 c).1 3)).trans ((A_eq m c 3).trans (V_main_arg3 m c)),
    ((congrFun ((rdat m c).ArrAt_in 4 rfl _) _).mp ((h.1 c).1 4)).trans ((A_eq m c 4).trans (V_main_arg4 m c)),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩) (run_main m ρ)

end Cert.KernelIdeal.Attn

end
-- ==== Proof.Quant.lean ====
module
public import Idealize.ShloMosaic.PureOps.Ideal
public import Idealize.ShloMosaic.Lib.Pointwise

@[expose] public section
noncomputable section
namespace Cert.Attn
open Idealize.ShloMosaic

theorem bits_one : Ideal.ofBits .f32 0x3F800000#32 = 1 := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_cap : Ideal.ofBits .f32 0x42EE0000#32 = ((119 : ℝ) : EReal) := by
  simp [Ideal.ofBits, Ideal.ieee, -EReal.coe_mul]; norm_num
theorem bits_zero : Ideal.ofBits .f32 0x00000000#32 = 0 := by
  simp [Ideal.ofBits, Ideal.ieee, -EReal.coe_mul]
theorem bits_bot : Ideal.ofBits .f32 0xFF800000#32 = ⊥ := by
  simp [Ideal.ofBits, Ideal.ieee, -EReal.coe_mul]
theorem bits_min : Ideal.ofBits .f32 0x00800000#32 = (((2 : ℝ) ^ (-126 : ℤ) : ℝ) : EReal) := by
  simp [Ideal.ofBits, Ideal.ieee, -EReal.coe_mul]; norm_num

/-- The pattern `n·2^23` is the number `2^(n-127)`. -/
theorem bits_pow (n : Fin 255) (h : 1 ≤ n.val) :
    Ideal.ofBits .f32 (BitVec.ofNat 32 n.val <<< 23) = (((2 : ℝ) ^ ((n.val : ℤ) - 127) : ℝ) : EReal) := by
  have h1 : ∀ n : Fin 255, ((BitVec.ofNat 32 n.val <<< 23).extractLsb' 23 8).toNat = n.val := by decide +kernel
  have h2 : ∀ n : Fin 255, ((BitVec.ofNat 32 n.val <<< 23).extractLsb' 0 23).toNat = 0 := by decide +kernel
  have h3 : ∀ n : Fin 255, ((BitVec.ofNat 32 n.val <<< 23).extractLsb' 31 1 == 1#1) = false := by decide +kernel
  have hn := n.isLt
  simp only [Ideal.ofBits, Ideal.ieee, h1 n, h2 n, h3 n]
  rw [if_neg (by norm_num; omega), if_neg (by omega)]
  congr 1
  norm_num
  rw [show (8388608 : ℝ) = (2 : ℝ) ^ (23 : ℤ) by norm_num, ← zpow_add₀ (by norm_num)]
  congr 1; ring

/-- The reference's exponent of a threshold. -/
def ex (t : EReal) : EReal :=
  if t < Ideal.ofBits .f32 0x00800000#32 then 0
  else min (Ideal.liftRound Int.floor (Ideal.div (Ideal.log t) (Ideal.log (Ideal.ofBits .f32 0x40000000#32))))
    (Ideal.ofBits .f32 0x42EE0000#32) + 1

/-- The `k`-th power of two of the kernel's table. -/
def tab (k : Fin 256) : BitVec 32 :=
  Scalar.select (IntOp.cmpi CmpIPredicate.sle (IntOp.shli ArithUnit.vector (BitVec.ofNat 32 k.val) 23#32) 2063597568#32)
    (IntOp.shli ArithUnit.vector (BitVec.ofNat 32 k.val) 23#32) 0#32

/-- The largest table entry not above `t`. -/
def pick (t : EReal) : BitVec 32 :=
  Finset.univ.fold IntOp.maxsi (2147483648#32) fun k : Fin 256 => if Ideal.ofBits .f32 (tab k) ≤ t then tab k else 0#32

theorem tab_zero : tab 0 = 0#32 := by decide +kernel
theorem tab_lo : ∀ k : Fin 256, k.val ≤ 246 → tab k = BitVec.ofNat 32 k.val <<< 23 := by decide +kernel
theorem tab_hi : ∀ k : Fin 256, 246 < k.val → tab k = 0#32 := by decide +kernel

theorem tab_int : ∀ k : Fin 256, k.val ≤ 246 → (tab k).toInt = (k.val : ℤ) * 8388608 := by decide +kernel
theorem shl_int : ∀ k : Fin 247, (BitVec.ofNat 32 k.val <<< 23).toInt = (k.val : ℤ) * 8388608 := by decide +kernel

theorem maxsi_int (a b : BitVec 32) : (IntOp.maxsi a b).toInt = max a.toInt b.toInt := by
  unfold IntOp.maxsi
  split_ifs with h
  · exact (max_eq_left (BitVec.slt_iff_toInt_lt.mp h).le).symm
  · exact (max_eq_right (not_lt.mp fun hc => h (BitVec.slt_iff_toInt_lt.mpr hc))).symm

/-- When the entries not above `t` are those up to the `n`-th, the pick is the `n`-th. -/
theorem fold_tab (n : Fin 247) : (Finset.univ.fold IntOp.maxsi (2147483648#32) fun k : Fin 256 =>
    if k.val ≤ n.val then tab k else 0#32) = BitVec.ofNat 32 n.val <<< 23 := by
  have hn := n.isLt
  apply BitVec.eq_of_toInt_eq
  rw [← Finset.fold_hom (op := IntOp.maxsi) (op' := max) (m := BitVec.toInt) maxsi_int, shl_int n]
  have hz : (0#32).toInt = 0 := by decide
  apply le_antisymm
  · rw [Finset.fold_max_le]
    refine ⟨?_, fun k _ => ?_⟩
    · have : (2147483648#32).toInt = -2147483648 := by decide
      rw [this]; omega
    · show (if k.val ≤ n.val then tab k else 0#32).toInt ≤ _
      split_ifs with h
      · rw [tab_int k (by omega)]; omega
      · rw [hz]; omega
  · rw [Finset.le_fold_max]
    refine Or.inr ⟨⟨n.val, by omega⟩, Finset.mem_univ _, ?_⟩
    show _ ≤ (if n.val ≤ n.val then tab ⟨n.val, by omega⟩ else 0#32).toInt
    rw [if_pos (le_refl _), tab_int ⟨n.val, by omega⟩ (by show n.val ≤ 246; omega)]

theorem pick_eq (t : EReal) (n : Fin 247)
    (h : ∀ k : ℕ, 1 ≤ k → k ≤ 246 → ((((2 : ℝ) ^ ((k : ℤ) - 127) : ℝ) : EReal) ≤ t ↔ k ≤ n.val)) :
    pick t = BitVec.ofNat 32 n.val <<< 23 := by
  rw [← fold_tab n]
  unfold pick
  congr 1
  funext k
  by_cases h0 : k.val = 0
  · have : k = 0 := Fin.ext h0
    subst this; simp [tab_zero]
  by_cases h1 : k.val ≤ 246
  · have e := h k.val (by omega) h1
    rw [tab_lo k h1, bits_pow ⟨k.val, by omega⟩ (by simp; omega)]
    simp only [e]
  · simp [tab_hi k (by omega)]

/-- The two forms of the row scale the kernel builds from the pick. -/
def scaleUp (t : EReal) : EReal :=
  Ideal.ofBits .f32 (Scalar.select (IntOp.cmpi CmpIPredicate.ne (pick t) 0#32) (IntOp.addi (pick t) 8388608#32) 1065353216#32)
def scaleDown (t : EReal) : EReal :=
  Ideal.ofBits .f32 (Scalar.select (IntOp.cmpi CmpIPredicate.ne (pick t) 0#32) (IntOp.subi (2122317824#32) (pick t)) 1065353216#32)

theorem up_bits : ∀ n : Fin 247, 1 ≤ n.val → Scalar.select (IntOp.cmpi CmpIPredicate.ne (BitVec.ofNat 32 n.val <<< 23) 0#32)
    (IntOp.addi (BitVec.ofNat 32 n.val <<< 23) 8388608#32) 1065353216#32 = BitVec.ofNat 32 (n.val + 1) <<< 23 := by decide +kernel
theorem down_bits : ∀ n : Fin 247, 1 ≤ n.val → Scalar.select (IntOp.cmpi CmpIPredicate.ne (BitVec.ofNat 32 n.val <<< 23) 0#32)
    (IntOp.subi (2122317824#32) (BitVec.ofNat 32 n.val <<< 23)) 1065353216#32 = BitVec.ofNat 32 (253 - n.val) <<< 23 := by decide +kernel

/-- For a threshold of at least `2^-126` the exponent is an integer `n - 126`, and the table entries not above it are those up to `n`. -/
theorem ex_spec (t : EReal) (ht : ¬ t < Ideal.ofBits .f32 0x00800000#32) :
    ∃ n : Fin 247, 1 ≤ n.val ∧ ex t = (((n.val : ℝ) - 126 : ℝ) : EReal) ∧
      ∀ k : ℕ, 1 ≤ k → k ≤ 246 → ((((2 : ℝ) ^ ((k : ℤ) - 127) : ℝ) : EReal) ≤ t ↔ k ≤ n.val) := by
  unfold ex
  rw [if_neg ht]
  rw [bits_min] at ht
  rw [bits_two, bits_cap]
  have hl2 : (0 : ℝ) < Real.log 2 := Real.log_pos (by norm_num)
  have hlog2 : Ideal.log ((2 : ℝ) : EReal) = ((Real.log 2 : ℝ) : EReal) := by
    rw [Ideal.log_coe, if_neg (by norm_num)]
  have hne : ((Real.log 2 : ℝ) : EReal) ≠ 0 := by exact_mod_cast hl2.ne'
  induction t using EReal.rec with
  | bot => exact absurd (EReal.bot_lt_coe _) ht
  | top =>
    refine ⟨⟨246, by norm_num⟩, by norm_num, ?_, fun k _ hk => by simp [hk]⟩
    rw [Ideal.log_top, hlog2, Ideal.div, if_neg hne, ← EReal.coe_inv, EReal.top_mul_coe_of_pos (by positivity)]
    show min (⊤ : EReal) _ + 1 = _
    rw [min_eq_right le_top, ← EReal.coe_one, ← EReal.coe_add]
    norm_num
  | coe r =>
    have hr : (2 : ℝ) ^ (-126 : ℤ) ≤ r := by
      by_contra hc; exact ht (by exact_mod_cast (not_le.mp hc))
    have hr0 : 0 < r := lt_of_lt_of_le (by positivity) hr
    rw [Ideal.log_coe, if_neg (not_le.mpr hr0), hlog2, Ideal.div, if_neg hne, ← EReal.coe_inv, ← EReal.coe_mul]
    set y := Real.log r * (Real.log 2)⁻¹ with hy
    have key : ∀ z : ℤ, (2 : ℝ) ^ z ≤ r ↔ z ≤ ⌊y⌋ := by
      intro z
      rw [Int.le_floor, hy, ← div_eq_mul_inv, le_div_iff₀ hl2, ← Real.log_zpow, Real.log_le_log_iff (by positivity) hr0]
    have hlo : -126 ≤ ⌊y⌋ := (key _).1 hr
    show ∃ n : Fin 247, _ ∧ min (((⌊y⌋ : ℝ)) : EReal) _ + 1 = _ ∧ _
    have hn : (min ⌊y⌋ 119 + 127).toNat < 247 := by omega
    refine ⟨⟨(min ⌊y⌋ 119 + 127).toNat, hn⟩, by show 1 ≤ (min ⌊y⌋ 119 + 127).toNat; omega, ?_, ?_⟩
    · have e : (((min ⌊y⌋ 119 + 127).toNat : ℕ) : ℝ) = ((min ⌊y⌋ 119 + 127 : ℤ) : ℝ) := by
        have : (((min ⌊y⌋ 119 + 127).toNat : ℕ) : ℤ) = min ⌊y⌋ 119 + 127 := Int.toNat_of_nonneg (by omega)
        exact_mod_cast this
      show _ = (((((min ⌊y⌋ 119 + 127).toNat : ℕ) : ℝ) - 126 : ℝ) : EReal)
      rw [e, ← EReal.coe_strictMono.monotone.map_min, ← EReal.coe_one, ← EReal.coe_add]
      congr 1
      push_cast
      ring
    · intro k h1 h2
      rw [EReal.coe_le_coe_iff, key]
      show _ ↔ k ≤ (min ⌊y⌋ 119 + 127).toNat
      omega

/-- Below `2^-126` no entry but zero is picked. -/
theorem small (t : EReal) (ht : t < Ideal.ofBits .f32 0x00800000#32) : pick t = 0#32 := by
  rw [pick_eq t 0]
  · rfl
  · intro k h1 h2
    rw [bits_min] at ht
    constructor
    · intro hk
      exfalso
      refine absurd (lt_of_le_of_lt hk ht) (not_lt.mpr ?_)
      rw [EReal.coe_le_coe_iff]
      exact zpow_le_zpow_right₀ (by norm_num) (by omega)
    · intro hk; simp at hk; omega

theorem exp2_int (z : ℤ) : Ideal.exp2 (((z : ℝ)) : EReal) = (((2 : ℝ) ^ z : ℝ) : EReal) := by
  rw [Ideal.exp2_coe]
  congr 1
  exact Real.rpow_intCast 2 z

/-- The kernel's row scale is two to the reference's exponent. -/
theorem scaleUp_eq (t : EReal) : scaleUp t = Ideal.exp2 (ex t) := by
  by_cases ht : t < Ideal.ofBits .f32 0x00800000#32
  · rw [scaleUp, small t ht, ex, if_pos ht]
    have := exp2_int 0
    simp only [Int.cast_zero, EReal.coe_zero, zpow_zero, EReal.coe_one] at this
    rw [this, ← bits_one]; rfl
  · obtain ⟨n, h1, h2, h3⟩ := ex_spec t ht
    rw [scaleUp, pick_eq t n h3, up_bits n h1, h2, bits_pow ⟨n.val + 1, by omega⟩ (by simp)]
    rw [show ((n.val : ℝ) - 126 : ℝ) = (((n.val : ℤ) - 126 : ℤ) : ℝ) by push_cast; ring, exp2_int]
    congr 2
    push_cast
    ring

/-- The kernel's inverse row scale is two to minus the reference's exponent. -/
theorem scaleDown_eq (t : EReal) : scaleDown t = Ideal.exp2 (0 - ex t) := by
  by_cases ht : t < Ideal.ofBits .f32 0x00800000#32
  · rw [scaleDown, small t ht, ex, if_pos ht, sub_zero]
    have := exp2_int 0
    simp only [Int.cast_zero, EReal.coe_zero, zpow_zero, EReal.coe_one] at this
    rw [this, ← bits_one]; rfl
  · obtain ⟨n, h1, h2, h3⟩ := ex_spec t ht
    rw [scaleDown, pick_eq t n h3, down_bits n h1, h2, bits_pow ⟨253 - n.val, by omega⟩ (by simp; omega)]
    rw [zero_sub, ← EReal.coe_neg, show (-((n.val : ℝ) - 126) : ℝ) = ((126 - (n.val : ℤ) : ℤ) : ℝ) by push_cast; ring, exp2_int]
    congr 2
    simp only
    omega

end Cert.Attn
end
-- ==== Proof.Softmax.lean ====
module
public import proofs.«01_k».proof.Proof.Quant

@[expose] public section
noncomputable section
namespace Cert.Attn
open Idealize.ShloMosaic

/-- The score scale, and the same over `log 2`, as real numbers. -/
def cR : ℝ := (Real.sqrt 512)⁻¹
def cK : ℝ := (Real.sqrt 512)⁻¹ * (Real.log 2)⁻¹

theorem cR_nonneg : 0 ≤ cR := by unfold cR; positivity

/-- One element of the attention, as the reference writes it: the scaled scores' softmax times the value column. -/
def attR {n : ℕ} (s v : Fin n → EReal) : EReal :=
  ∑ j, Ideal.div (Ideal.exp (s j * (cR : EReal) - max (Ideal.ofBits .f32 0xFF800000#32)
      (Finset.univ.fold max (Ideal.ofBits .f32 0xFF800000#32) fun i => s i * (cR : EReal))))
    (∑ i, Ideal.exp (s i * (cR : EReal) - max (Ideal.ofBits .f32 0xFF800000#32)
      (Finset.univ.fold max (Ideal.ofBits .f32 0xFF800000#32) fun i => s i * (cR : EReal)))) * v j

/-- The same as the kernel writes it: unscaled scores, powers of two, and the division after the second product. -/
def attK {n : ℕ} (s v : Fin n → EReal) : EReal :=
  (∑ j, Ideal.exp2 ((s j - Finset.univ.fold max (Ideal.ofBits .f32 0xFF800000#32) s) * (cK : EReal)) * v j) *
    Ideal.div 1 (∑ j, Ideal.exp2 ((s j - Finset.univ.fold max (Ideal.ofBits .f32 0xFF800000#32) s) * (cK : EReal)))

theorem fold_max_real {n : ℕ} (r : Fin (n + 1) → ℝ) :
    (Finset.univ.fold max (⊥ : EReal) fun j => ((r j : ℝ) : EReal)) = ((Finset.univ.sup' Finset.univ_nonempty r : ℝ) : EReal) := by
  apply le_antisymm
  · rw [Finset.fold_max_le]
    exact ⟨bot_le, fun x hx => EReal.coe_le_coe_iff.2 (Finset.le_sup' r hx)⟩
  · obtain ⟨j, hj, e⟩ := Finset.exists_mem_eq_sup' Finset.univ_nonempty r
    rw [e, Finset.le_fold_max]
    exact Or.inr ⟨j, hj, le_refl _⟩

theorem coe_sum {n : ℕ} (r : Fin n → ℝ) : (∑ j, ((r j : ℝ) : EReal)) = ((∑ j, r j : ℝ) : EReal) := by
  classical
  induction (Finset.univ : Finset (Fin n)) using Finset.induction_on with
  | empty => simp
  | insert a s ha ih => rw [Finset.sum_insert ha, Finset.sum_insert ha, ih, EReal.coe_add]

/-- A nonnegative real factor goes into a sum of extended reals. -/
theorem sum_mul_coe {n : ℕ} (f : Fin n → EReal) (c : ℝ) (hc : 0 ≤ c) : (∑ j, f j) * (c : EReal) = ∑ j, f j * (c : EReal) := by
  classical
  induction (Finset.univ : Finset (Fin n)) using Finset.induction_on with
  | empty => simp
  | insert a s ha ih =>
    rw [Finset.sum_insert ha, Finset.sum_insert ha, ← ih, mul_comm, mul_comm (f a), mul_comm (∑ x ∈ s, f x)]
    exact EReal.left_distrib_of_nonneg_of_ne_top (EReal.coe_nonneg.2 hc) (EReal.coe_ne_top _) _ _

/-- For real scores the two are equal, whatever the values. -/
theorem att_eq {n : ℕ} (r : Fin (n + 1) → ℝ) (v : Fin (n + 1) → EReal) : attK (fun j => ((r j : ℝ) : EReal)) v = attR (fun j => ((r j : ℝ) : EReal)) v := by
  unfold attK attR
  rw [bits_bot, fold_max_real r]
  have hs : ∀ j, ((r j : ℝ) : EReal) * (cR : EReal) = ((r j * cR : ℝ) : EReal) := fun j => (EReal.coe_mul _ _).symm
  simp only [hs]
  rw [fold_max_real (fun j => r j * cR), max_eq_right bot_le]
  set M := Finset.univ.sup' (Finset.univ_nonempty (α := Fin (n + 1))) r with hM
  have hM' : Finset.univ.sup' (Finset.univ_nonempty (α := Fin (n + 1))) (fun j => r j * cR) = M * cR := by
    apply le_antisymm
    · exact Finset.sup'_le _ _ fun j hj => mul_le_mul_of_nonneg_right (Finset.le_sup' r hj) cR_nonneg
    · obtain ⟨j, hj, e⟩ := Finset.exists_mem_eq_sup' (Finset.univ_nonempty (α := Fin (n + 1))) r
      rw [hM, e]
      exact Finset.le_sup' (fun j => r j * cR) hj
  rw [hM']
  have hl2 : (0 : ℝ) < Real.log 2 := Real.log_pos (by norm_num)
  have hk : ∀ j, Ideal.exp2 ((((r j : ℝ) : EReal) - ((M : ℝ) : EReal)) * (cK : EReal)) = ((Real.exp (r j * cR - M * cR) : ℝ) : EReal) := by
    intro j
    rw [← EReal.coe_sub, ← EReal.coe_mul, Ideal.exp2_coe]
    congr 1
    show (2 : ℝ) ^ ((r j - M) * cK) = _
    rw [Real.rpow_def_of_pos (by norm_num)]
    congr 1
    unfold cK cR
    field_simp
  have hr : ∀ j, Ideal.exp (((r j * cR : ℝ) : EReal) - ((M * cR : ℝ) : EReal)) = ((Real.exp (r j * cR - M * cR) : ℝ) : EReal) := by
    intro j
    rw [← EReal.coe_sub, Ideal.exp_coe]
  simp only [hk, hr]
  rw [coe_sum]
  set L := ∑ j, Real.exp (r j * cR - M * cR) with hL
  have hLpos : 0 < L := Finset.sum_pos (fun j _ => Real.exp_pos _) (Finset.univ_nonempty (α := Fin (n + 1)))
  have hLne : ((L : ℝ) : EReal) ≠ 0 := by exact_mod_cast hLpos.ne'
  simp only [Ideal.div, if_neg hLne]
  rw [← EReal.coe_inv, one_mul, sum_mul_coe _ _ (inv_nonneg.2 hLpos.le)]
  refine Finset.sum_congr rfl fun j _ => ?_
  rw [mul_right_comm]

/-- A real row has real scores. -/
theorem score_real (q : Fin 512 → EReal) (k : Fin 2048 → Fin 512 → EReal) (hq : ∀ d, ∃ x : ℝ, q d = x) (hk : ∀ j d, ∃ x : ℝ, k j d = x) :
    ∃ r : Fin 2048 → ℝ, (fun j => ∑ d, q d * k j d) = fun j => ((r j : ℝ) : EReal) := by
  choose x hx using hq
  choose y hy using hk
  refine ⟨fun j => ∑ d, x d * y j d, ?_⟩
  funext j
  simp only [hx, hy, ← EReal.coe_mul]
  exact coe_sum _

end Cert.Attn
end
-- ==== Proof.Rows.lean ====
module
public import proofs.«01_k».proof.Proof.Softmax

@[expose] public section
noncomputable section
namespace Cert.Attn
open Idealize.ShloMosaic

theorem exp2_op (x : Ideal .f32) : FloatOps.exp2 (F := Ideal) (φ := .f32) x = Ideal.exp2 x := rfl

/-- The threshold of a row: its largest magnitude over 448. -/
def thr (o : Fin 512 → EReal) : EReal :=
  (Finset.univ.fold max (Ideal.ofBits .f32 0xFF800000#32) fun d => FloatOps.absf (F := Ideal) (φ := .f32) (o d)) *
    Ideal.ofBits .f32 0x3B124925#32
/-- A number scaled and clipped to the codes' range. -/
def clip (o e : EReal) : EReal :=
  min (Ideal.ofBits .f32 0x43E00000#32) (max (Ideal.ofBits .f32 0xC3E00000#32) (o * e))
/-- A quantised row's codes. -/
def quantC (o : Fin 512 → EReal) (d : Fin 512) : EReal := clip (o d) (Ideal.exp2 (0 - ex (thr o)))
/-- A quantised row's scale. -/
def quantS (o : Fin 512 → EReal) : EReal := Ideal.exp2 (ex (thr o))
/-- The scores of a row against an image. -/
def score (q : Fin 512 → EReal) (k : Fin 2048 → Fin 512 → EReal) (j : Fin 2048) : EReal := ∑ d, q d * k j d
/-- The attention of a row over an image. -/
def rowO (q : Fin 512 → EReal) (k v : Fin 2048 → Fin 512 → EReal) (d : Fin 512) : EReal := attR (score q k) fun j => v j d
/-- The output projection of a quantised row. -/
def rowP (o : Fin 512 → EReal) (w : Fin 512 → Fin 512 → EReal) (s b : Fin 512 → EReal) (d : Fin 512) : EReal :=
  (∑ j, quantC o j * w j d) * quantS o * s d + b d
/-- The residual row. -/
def rowY (x p : Fin 512 → EReal) (d : Fin 512) : EReal := x d + p d

theorem rowO_eq (q : Fin 512 → EReal) (k v : Fin 2048 → Fin 512 → EReal) (hq : ∀ d, ∃ x : ℝ, q d = x) (hk : ∀ j d, ∃ x : ℝ, k j d = x)
    (d : Fin 512) : attK (score q k) (fun j => v j d) = rowO q k v d := by
  obtain ⟨r, hr⟩ := score_real q k hq hk
  have e : score q k = fun j => ((r j : ℝ) : EReal) := hr
  unfold rowO
  rw [e]
  exact att_eq (n := 2047) r _

end Cert.Attn
end
-- ==== Proof.KernelIdealRead.lean ====
module
public import proofs.«01_k».proof.Proof.KernelIdealBody
public import proofs.«01_k».proof.Proof.Rows
public import Idealize.ShloMosaic.Lib.Pointwise

@[expose] public section
set_option maxRecDepth 16384
noncomputable section
namespace Cert.KernelIdeal.Attn
open Idealize.ShloMosaic Cert.KernelIdeal Cert.KernelIdeal.Gen Cert.Attn

/-! ## The body's values at an index -/

theorem named_scale : Named.named (F := Ideal) (φ := .f32) κ "score_scale_log2e" 0x3D8293EE#32 = (cK : EReal) := rfl

theorem pay2_at (q : Vec Ideal S1x512x512 .bf16) (k v : Vec Ideal S1x2048x512 .bf16) (r d : Fin 512) :
    k0_pay2 q k v (ix2 r d) = attK (score (fun x => q (ix3 0 r x)) fun j x => k (ix3 0 j x)) fun j => v (ix3 0 j d) := by
  unfold attK score
  rw [← named_scale]
  pointwise [k0_pay2]
  simp only [exp2_op]

theorem pay3_at (q : Vec Ideal S1x512x512 .bf16) (k v : Vec Ideal S1x2048x512 .bf16) (r : Fin 512) :
    k0_pay3 q k v (ix2 r 0) = thr fun d => k0_pay2 q k v (ix2 r d) := by
  unfold thr
  pointwise [k0_pay3]

theorem pay8_at (t : FVec Ideal S512x1 .f32) (r : Fin 512) : k0_pay8 t k0_pay4 k0_pay5 (ix2 r 0) = scaleUp (t (ix2 r 0)) := by
  unfold scaleUp pick tab
  pointwise [k0_pay8, k0_pay7, k0_pay6, k0_pay4, k0_pay5]

theorem pay9_at (o : FVec Ideal S512x512 .f32) (t : FVec Ideal S512x1 .f32) (r d : Fin 512) :
    k0_pay9 o t k0_pay4 k0_pay5 (ix2 r d) = clip (o (ix2 r d)) (scaleDown (t (ix2 r 0))) := by
  unfold clip scaleDown pick tab
  pointwise [k0_pay9, k0_pay7, k0_pay6, k0_pay4, k0_pay5]

theorem pay10_at (o : FVec Ideal S512x512 .f32) (t : FVec Ideal S512x1 .f32) (r d : Fin 512) :
    k0_pay10 o t k0_pay4 k0_pay5 (ix3 0 r d) = clip (o (ix2 r d)) (scaleDown (t (ix2 r 0))) := by
  unfold clip scaleDown pick tab
  pointwise [k0_pay10, k0_pay9, k0_pay7, k0_pay6, k0_pay4, k0_pay5]

theorem pay15_at (sc : FVec Ideal S512x1 .f32) (c : FVec Ideal S512x512 .fp8e4m3) (w : Vec Ideal S512x512 .fp8e4m3) (s b : Vec Ideal S1x512 .f32) (r d : Fin 512) :
    k0_pay15 sc c w s b (ix2 r d) = (∑ j : Fin 512, c (ix2 r j) * w (ix2 j d)) * sc (ix2 r 0) * s (ix2 0 d) + b (ix2 0 d) := by
  pointwise [k0_pay15]

theorem pay16_at (sc : FVec Ideal S512x1 .f32) (c : FVec Ideal S512x512 .fp8e4m3) (w : Vec Ideal S512x512 .fp8e4m3) (s b : Vec Ideal S1x512 .f32) (r d : Fin 512) :
    k0_pay16 sc c w s b (ix3 0 r d) = (∑ j : Fin 512, c (ix2 r j) * w (ix2 j d)) * sc (ix2 r 0) * s (ix2 0 d) + b (ix2 0 d) := by
  pointwise [k0_pay16, k0_pay15]

theorem pay18_at (p : FVec Ideal S512x512 .f32) (x : Vec Ideal S1x512x512 .bf16) (r d : Fin 512) :
    k0_pay18 p (k0_pay17 x) (ix2 r d) = x (ix3 0 r d) + p (ix2 r d) := by
  pointwise [k0_pay18, k0_pay17]

theorem pay21_at (p : FVec Ideal S512x512 .f32) (x : FVec Ideal S512x512 .bf16) (r : Fin 512) :
    k0_pay21 p x (ix2 r 0) = scaleUp (thr fun d => k0_pay18 p x (ix2 r d)) := by
  unfold scaleUp pick tab thr
  pointwise [k0_pay21, k0_pay20, k0_pay19]

theorem pay22_at (p : FVec Ideal S512x512 .f32) (x : FVec Ideal S512x512 .bf16) (r d : Fin 512) :
    k0_pay22 p x (ix2 r d) = clip (k0_pay18 p x (ix2 r d)) (scaleDown (thr fun d => k0_pay18 p x (ix2 r d))) := by
  unfold clip scaleDown pick tab thr
  pointwise [k0_pay22, k0_pay20, k0_pay19]

theorem pay23_at (c : FVec Ideal S512x512 .fp8e4m3) (r d : Fin 512) : k0_pay23 c (ix3 0 r d) = c (ix2 r d) := by
  pointwise [k0_pay23]

/-- A column masked to the diagonal and summed gives the column's entry. -/
theorem diag (f : Fin 128 → EReal) (l : ℕ) (h : l < 128) :
    (∑ x : Fin 128, Scalar.select (IntOp.cmpi CmpIPredicate.eq (BitVec.ofNat 32 x.val) (BitVec.ofNat 32 l)) (f x) 0) = f ⟨l, h⟩ := by
  have key : ∀ x l : Fin 128, IntOp.cmpi CmpIPredicate.eq (BitVec.ofNat 32 x.val) (BitVec.ofNat 32 l.val) = if x = l then 1#1 else 0#1 := by
    decide +kernel
  rw [Finset.sum_eq_single (⟨l, h⟩ : Fin 128)]
  · rw [key ⟨l, h⟩ ⟨l, h⟩, if_pos rfl]; rfl
  · intro x _ hx
    rw [key x ⟨l, h⟩, if_neg hx]; rfl
  · intro hx; exact absurd (Finset.mem_univ _) hx

theorem pay14_at (s t : FVec Ideal S512x1 .f32) (hs : s = k0_pay8 t k0_pay4 k0_pay5) (l : Fin 512) :
    k0_pay14 s k0_pay11 (k0_pay12 t k0_pay4 k0_pay5) (k0_pay13 t k0_pay4 k0_pay5) (Scalar.ofBits .f32 0x00000000#32) (ix2 0 l)
      = s (ix2 l 0) := by
  have hl := l.isLt
  pointwise [k0_pay14, k0_pay11, k0_pay12, k0_pay13]
  rw [← hs]
  split_ifs with h1 h2 h3
  · exact (diag (fun x => s (ix2 ⟨x.val, by omega⟩ 0)) l.val h1)
  · refine (diag (fun x => s (ix2 ⟨128 + x.val, by omega⟩ 0)) (l.val - 128) h2).trans ?_
    exact congrArg (fun z => s (ix2 z 0)) (Fin.ext (by show 128 + (l.val - 128) = l.val; omega))
  · refine (diag (fun x => s (ix2 ⟨256 + x.val, by omega⟩ 0)) (l.val - 128 - 128) h3).trans ?_
    exact congrArg (fun z => s (ix2 z 0)) (Fin.ext (by show 256 + (l.val - 128 - 128) = l.val; omega))
  · refine (diag (fun x => s (ix2 ⟨384 + x.val, by omega⟩ 0)) (l.val - 128 - 128 - 128) (by omega)).trans ?_
    exact congrArg (fun z => s (ix2 z 0)) (Fin.ext (by show 384 + (l.val - 128 - 128 - 128) = l.val; omega))

theorem pay24_at (s : FVec Ideal S512x1 .f32) (l : Fin 512) : k0_pay24 s (ix2 0 l) = s (ix2 l 0) := by
  have hl := l.isLt
  pointwise [k0_pay24]
  split_ifs with h1 h2 h3
  · exact (diag (fun x => s (ix2 ⟨x.val, by omega⟩ 0)) l.val h1)
  · refine (diag (fun x => s (ix2 ⟨128 + x.val, by omega⟩ 0)) (l.val - 128) h2).trans ?_
    exact congrArg (fun z => s (ix2 z 0)) (Fin.ext (by show 128 + (l.val - 128) = l.val; omega))
  · refine (diag (fun x => s (ix2 ⟨256 + x.val, by omega⟩ 0)) (l.val - 128 - 128) h3).trans ?_
    exact congrArg (fun z => s (ix2 z 0)) (Fin.ext (by show 256 + (l.val - 128 - 128) = l.val; omega))
  · refine (diag (fun x => s (ix2 ⟨384 + x.val, by omega⟩ 0)) (l.val - 128 - 128 - 128) (by omega)).trans ?_
    exact congrArg (fun z => s (ix2 z 0)) (Fin.ext (by show 384 + (l.val - 128 - 128 - 128) = l.val; omega))

/-! ## What a grid point leaves, row by row -/

section Block

theorem hz3 : (![0, 0, 0] : Fin 3 → Nat) = fun _ => 0 := by decide
theorem hz2 : (![0, 0] : Fin 2 → Nat) = fun _ => 0 := by decide

variable (x0 : Vec Ideal S1x512x512 .bf16) (x1 x2 : Vec Ideal S1x2048x512 .bf16) (x3 : Vec Ideal S1x512x512 .bf16)
  (x4 : Vec Ideal S512x512 .fp8e4m3) (x5 x6 : Vec Ideal S1x512 .f32)

/-- The attention row, the projected row and the residual row of token `r` of the block. -/
def bO (r : Fin 512) : Fin 512 → EReal :=
  rowO (fun d => x0 (ix3 0 r d)) (fun j d => x1 (ix3 0 j d)) (fun j d => x2 (ix3 0 j d))
def bP (r : Fin 512) : Fin 512 → EReal :=
  rowP (bO x0 x1 x2 r) (fun j d => x4 (ix2 j d)) (fun d => x5 (ix2 0 d)) (fun d => x6 (ix2 0 d))
def bY (r : Fin 512) : Fin 512 → EReal := rowY (fun d => x3 (ix3 0 r d)) (bP x0 x1 x2 x4 x5 x6 r)

variable (hq : ∀ r d, ∃ x : ℝ, x0 (ix3 0 r d) = x) (hk : ∀ j d, ∃ x : ℝ, x1 (ix3 0 j d) = x)

include hq hk

theorem vO_at (r : Fin 512) : (fun d => vO x0 x1 x2 (ix2 r d)) = bO x0 x1 x2 r := by
  funext d
  unfold vO
  rw [View.ld_unit_zero (S := S1x512x512) hz3 _ x0, View.ld_unit_zero (S := S1x2048x512) hz3 _ x1, View.ld_unit_zero (S := S1x2048x512) hz3 _ x2, pay2_at]
  exact rowO_eq _ _ (fun j d => x2 (ix3 0 j d)) (hq r) hk d

theorem vT_at (r : Fin 512) : vT x0 x1 x2 (ix2 r 0) = thr (bO x0 x1 x2 r) := by
  rw [← vO_at x0 x1 x2 hq hk r]
  exact pay3_at _ _ _ r

theorem vScale_at (r : Fin 512) : vScale x0 x1 x2 (ix2 r 0) = quantS (bO x0 x1 x2 r) := by
  unfold vScale quantS
  rw [pay8_at, vT_at x0 x1 x2 hq hk, scaleUp_eq]

theorem vCodes_at (r d : Fin 512) : vCodes x0 x1 x2 (ix2 r d) = quantC (bO x0 x1 x2 r) d := by
  unfold vCodes quantC
  rw [pay9_at, vT_at x0 x1 x2 hq hk, scaleDown_eq, ← vO_at x0 x1 x2 hq hk r]

theorem out8_at (r d : Fin 512) : out8 x0 x1 x2 (ix3 0 r d) = quantC (bO x0 x1 x2 r) d := by
  unfold out8 quantC
  rw [pay10_at, vT_at x0 x1 x2 hq hk, scaleDown_eq, ← vO_at x0 x1 x2 hq hk r]

theorem row9_at (l : Fin 512) : row9 x0 x1 x2 (ix2 0 l) = quantS (bO x0 x1 x2 l) := by
  rw [← vScale_at x0 x1 x2 hq hk l]
  exact pay14_at _ _ rfl l

theorem vProj_at (r : Fin 512) : (fun d => vProj x0 x1 x2 x4 x5 x6 (ix2 r d)) = bP x0 x1 x2 x4 x5 x6 r := by
  funext d
  unfold vProj bP rowP
  rw [View.ld_unit_zero (S := S512x512) hz2 _ x4, View.ld_unit_zero (S := S1x512) hz2 _ x5, View.ld_unit_zero (S := S1x512) hz2 _ x6, pay15_at,
    vScale_at x0 x1 x2 hq hk]
  simp only [vCodes_at x0 x1 x2 hq hk]

theorem out7_at (r d : Fin 512) : out7 x0 x1 x2 x4 x5 x6 (ix3 0 r d) = bP x0 x1 x2 x4 x5 x6 r d := by
  unfold out7 bP rowP
  rw [View.ld_unit_zero (S := S512x512) hz2 _ x4, View.ld_unit_zero (S := S1x512) hz2 _ x5, View.ld_unit_zero (S := S1x512) hz2 _ x6, pay16_at,
    vScale_at x0 x1 x2 hq hk]
  simp only [vCodes_at x0 x1 x2 hq hk]

theorem vY_at (r : Fin 512) :
    (fun d => k0_pay18 (vProj x0 x1 x2 x4 x5 x6) (k0_pay17 (View.ld x3 rTok)) (ix2 r d)) = bY x0 x1 x2 x3 x4 x5 x6 r := by
  funext d
  rw [View.ld_unit_zero (S := S1x512x512) hz3 _ x3, pay18_at]
  exact congrArg (x3 (ix3 0 r d) + ·) (congrFun (vProj_at x0 x1 x2 x4 x5 x6 hq hk r) d)

theorem out10_at (r d : Fin 512) : out10 x0 x1 x2 x3 x4 x5 x6 (ix3 0 r d) = quantC (bY x0 x1 x2 x3 x4 x5 x6 r) d := by
  unfold out10 quantC
  rw [pay23_at, pay22_at, vY_at x0 x1 x2 x3 x4 x5 x6 hq hk r, scaleDown_eq]
  exact congrArg (clip · _) (congrFun (vY_at x0 x1 x2 x3 x4 x5 x6 hq hk r) d)

theorem row11_at (l : Fin 512) : row11 x0 x1 x2 x3 x4 x5 x6 (ix2 0 l) = quantS (bY x0 x1 x2 x3 x4 x5 x6 l) := by
  unfold row11 quantS
  rw [pay24_at, pay21_at, vY_at x0 x1 x2 x3 x4 x5 x6 hq hk l, scaleUp_eq]

end Block

end Cert.KernelIdeal.Attn
end
-- ==== Proof.ReferenceValue.lean ====
/- The run of the reference, read: it has ONE grid point and every window is its whole array, so each result array after the run
   is the body's result of the seven argument arrays. -/
module

public import proofs.«01_k».proof.Proof.Gen.ReferenceIdeal.Frame
public import Idealize.ShloMosaic.Lib.Pipeline.Value

@[expose] public section

noncomputable section

namespace Cert.ReferenceIdeal.Attn

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S12x2048x512.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S12x2048x512.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S12x2048.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S12x2048x512.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S12x2048.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_3) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_4) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_v0_3) = (dats m 0 c).arrAt 10 cfg0.N
      ∧ r.2.mem ((c : Thread nD τ).loc main_v0_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)
/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S12x2048x512.Idx) : ((cfg0.win 0).blk t).view.emb j = j := by
  obtain ⟨e0, e1, e2⟩ := idx_zero0 t
  funext a; apply Fin.ext
  match a with
  | ⟨0, _⟩ => show win0_0.index t (0 : Fin 3) * 12 + 1 * (j 0).val = (j 0).val; omega
  | ⟨1, _⟩ => show win0_0.index t (1 : Fin 3) * 2048 + 1 * (j 1).val = (j 1).val; omega
  | ⟨2, _⟩ => show win0_0.index t (2 : Fin 3) * 512 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S12x2048x512.Idx) : ((cfg0.win 1).blk t).view.emb j = j := by
  obtain ⟨e0, e1, e2⟩ := idx_zero1 t
  funext a; apply Fin.ext
  match a with
  | ⟨0, _⟩ => show win0_1.index t (0 : Fin 3) * 12 + 1 * (j 0).val = (j 0).val; omega
  | ⟨1, _⟩ => show win0_1.index t (1 : Fin 3) * 2048 + 1 * (j 1).val = (j 1).val; omega
  | ⟨2, _⟩ => show win0_1.index t (2 : Fin 3) * 512 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S12x2048x512.Idx) : ((cfg0.win 2).blk t).view.emb j = j := by
  obtain ⟨e0, e1, e2⟩ := idx_zero2 t
  funext a; apply Fin.ext
  match a with
  | ⟨0, _⟩ => show win0_2.index t (0 : Fin 3) * 12 + 1 * (j 0).val = (j 0).val; omega
  | ⟨1, _⟩ => show win0_2.index t (1 : Fin 3) * 2048 + 1 * (j 1).val = (j 1).val; omega
  | ⟨2, _⟩ => show win0_2.index t (2 : Fin 3) * 512 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S12x2048x512.Idx) : ((cfg0.win 3).blk t).view.emb j = j := by
  obtain ⟨e0, e1, e2⟩ := idx_zero3 t
  funext a; apply Fin.ext
  match a with
  | ⟨0, _⟩ => show win0_3.index t (0 : Fin 3) * 12 + 1 * (j 0).val = (j 0).val; omega
  | ⟨1, _⟩ => show win0_3.index t (1 : Fin 3) * 2048 + 1 * (j 1).val = (j 1).val; omega
  | ⟨2, _⟩ => show win0_3.index t (2 : Fin 3) * 512 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S512x512.Idx) : ((cfg0.win 4).blk t).view.emb j = j := by
  obtain ⟨e0, e1⟩ := idx_zero4 t
  funext a; apply Fin.ext
  match a with
  | ⟨0, _⟩ => show win0_4.index t (0 : Fin 2) * 512 + 1 * (j 0).val = (j 0).val; omega
  | ⟨1, _⟩ => show win0_4.index t (1 : Fin 2) * 512 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S512.Idx) : ((cfg0.win 5).blk t).view.emb j = j := by
  have e0 := idx_zero5 t
  funext a; apply Fin.ext
  match a with
  | ⟨0, _⟩ => show win0_5.index t (0 : Fin 1) * 512 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S512.Idx) : ((cfg0.win 6).blk t).view.emb j = j := by
  have e0 := idx_zero6 t
  funext a; apply Fin.ext
  match a with
  | ⟨0, _⟩ => show win0_6.index t (0 : Fin 1) * 512 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S12x2048x512.Idx) : ((cfg0.win 7).blk t).view.emb j = j := by
  obtain ⟨e0, e1, e2⟩ := idx_zero7 t
  funext a; apply Fin.ext
  match a with
  | ⟨0, _⟩ => show win0_7.index t (0 : Fin 3) * 12 + 1 * (j 0).val = (j 0).val; omega
  | ⟨1, _⟩ => show win0_7.index t (1 : Fin 3) * 2048 + 1 * (j 1).val = (j 1).val; omega
  | ⟨2, _⟩ => show win0_7.index t (2 : Fin 3) * 512 + 1 * (j 2).val = (j 2).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S12x2048x512.Idx) : ((cfg0.win 8).blk t).view.emb j = j := by
  obtain ⟨e0, e1, e2⟩ := idx_zero8 t
  funext a; apply Fin.ext
  match a with
  | ⟨0, _⟩ => show win0_8.index t (0 : Fin 3) * 12 + 1 * (j 0).val = (j 0).val; omega
  | ⟨1, _⟩ => show win0_8.index t (1 : Fin 3) * 2048 + 1 * (j 1).val = (j 1).val; omega
  | ⟨2, _⟩ => show win0_8.index t (2 : Fin 3) * 512 + 1 * (j 2).val = (j 2).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S12x2048.Idx) : ((cfg0.win 9).blk t).view.emb j = j := by
  obtain ⟨e0, e1⟩ := idx_zero9 t
  funext a; apply Fin.ext
  match a with
  | ⟨0, _⟩ => show win0_9.index t (0 : Fin 2) * 12 + 1 * (j 0).val = (j 0).val; omega
  | ⟨1, _⟩ => show win0_9.index t (1 : Fin 2) * 2048 + 1 * (j 1).val = (j 1).val; omega

theorem hz10 : (![0, 0, 0] : Fin 3 → Nat) = fun _ => 0 := funext fun a => by fin_cases a <;> rfl

/-- Window 10's block index at the one point is zero on every axis. -/
theorem idx_zero10 : ∀ t : Fin cfg0.N, win0_10.index t (0 : Fin 3) = 0 ∧ win0_10.index t (1 : Fin 3) = 0 ∧ win0_10.index t (2 : Fin 3) = 0 :=
  (by decide +kernel : ∀ t : Fin grid0.N, _)

/-- An index of window 10's block is the same index of its array. -/
theorem emb10 (t : Fin cfg0.N) (j : S12x2048x512.Idx) : ((cfg0.win 10).blk t).view.emb j = j := by
  obtain ⟨e0, e1, e2⟩ := idx_zero10 t
  funext a; apply Fin.ext
  match a with
  | ⟨0, _⟩ => show win0_10.index t (0 : Fin 3) * 12 + 1 * (j 0).val = (j 0).val; omega
  | ⟨1, _⟩ => show win0_10.index t (1 : Fin 3) * 2048 + 1 * (j 1).val = (j 1).val; omega
  | ⟨2, _⟩ => show win0_10.index t (2 : Fin 3) * 512 + 1 * (j 2).val = (j 2).val; omega

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S12x2048.Idx) : ((cfg0.win 11).blk t).view.emb j = j := by
  obtain ⟨e0, e1⟩ := idx_zero11 t
  funext a; apply Fin.ext
  match a with
  | ⟨0, _⟩ => show win0_11.index t (0 : Fin 2) * 12 + 1 * (j 0).val = (j 0).val; omega
  | ⟨1, _⟩ => show win0_11.index t (1 : Fin 2) * 2048 + 1 * (j 1).val = (j 1).val; omega

/-! ### Output window 7: the array after the run -/

/-- What the window's array ends holding: `out0_7` applied to the argument arrays in place of the input blocks (a value that the
    frame states apart, `kK_payN a…`, keeps its loads inside its own definition). -/
abbrev G7 (a0 : Vec F S12x2048x512 .bf16) (a1 : Vec F S12x2048x512 .bf16) (a2 : Vec F S12x2048x512 .bf16) (a3 : Vec F S12x2048x512 .bf16) (a4 : Vec F S512x512 .fp8e4m3) (a5 : Vec F S512 .f32) (a6 : Vec F S512 .f32) : Vec F S12x2048x512 .bf16 :=
  k0_pay4 (k0_pay13 (k0_pay20 a0 a1 a2 a3 a4 a5 a6) (k0_pay21 a0 a1 a2 a3 a4 a5 a6) (k0_pay22 a0 a1 a2 a3 a4 a5 a6) a4 a5 a6)

/-- A load of the whole of a block reads the block, and the one store through the whole rectangle leaves its payload. -/
theorem out7_eq (a0 : Vec F S12x2048x512 .bf16) (a1 : Vec F S12x2048x512 .bf16) (a2 : Vec F S12x2048x512 .bf16) (a3 : Vec F S12x2048x512 .bf16) (a4 : Vec F S512x512 .fp8e4m3) (a5 : Vec F S512 .f32) (a6 : Vec F S512 .f32) : out0_7 (F := F) a0 a1 a2 a3 a4 a5 a6 = G7 a0 a1 a2 a3 a4 a5 a6 := by
  unfold out0_7
  rw [View.canon_unit_zero hz7, View.ld_unit_zero (S := S512x512) hz4 _ a4, View.ld_unit_zero (S := S512) hz5 _ a5, View.ld_unit_zero (S := S512) hz6 _ a6]

/-- Cutting the point's block out of `X` and reading `X` through the block's view give the same. -/
theorem cut7_eq (t : Fin cfg0.N) (X : Vec F S12x2048x512 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5) (V m c main_arg6)) := by
  show (cfg0.win 7).cut (grid0.coords t) ((dats m 0 c).after 7 t) = _
  rw [after0_7, out7_eq, iblk0_eq, iblk1_eq, iblk2_eq, iblk3_eq, iblk4_eq, iblk5_eq, iblk6_eq]
  exact cut7_eq t _

/-- Every index of the array is in the point's block. -/
theorem covered7 (i : S12x2048x512.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 7 (G7 (V m c main_arg0) (V m c main_arg1) (V m c main_arg2) (V m c main_arg3) (V m c main_arg4) (V m c main_arg5) (V m c main_arg6)) (fun t _ => flushed7_eq m c t) covered7).trans (by rw [V_main_arg0, V_main_arg1, V_main_arg2, V_main_arg3, V_main_arg4, V_main_arg5, V_main_arg6])

/-! ### Output window 8: the array after the run -/

/-- What the window's array ends holding: `out0_8` applied to the argument arrays in place of the input blocks (a value that the
    frame states apart, `kK_payN a…`, keeps its loads inside its own definition). -/
abbrev G8 (a0 : Vec F S12x2048x512 .bf16) (a1 : Vec F S12x2048x512 .bf16) (a2 : Vec F S12x2048x512 .bf16) (a3 : Vec F S12x2048x512 .bf16) (a4 : Vec F S512x512 .fp8e4m3) (a5 : Vec F S512 .f32) (a6 : Vec F S512 .f32) : Vec F S12x2048x512 .fp8e4m3 :=
  k0_pay11 (k0_pay20 a0 a1 a2 a3 a4 a5 a6) (k0_pay21 a0 a1 a2 a3 a4 a5 a6) (k0_pay22 a0 a1 a2 a3 a4 a5 a6)

/-- The one store through the whole rectangle leaves its payload. -/
theorem out8_eq (a0 : Vec F S12x2048x512 .bf16) (a1 : Vec F S12x2048x512 .bf16) (a2 : Vec F S12x2048x512 .bf16) (a3 : Vec F S12x2048x512 .bf16) (a4 : Vec F S512x512 .fp8e4m3) (a5 : Vec F S512 .f32) (a6 : Vec F S512 .f32) : out0_8 (F := F) a0 a1 a2 a3 a4 a5 a6 = G8 a0 a1 a2 a3 a4 a5 a6 := by
  unfold out0_8
  rw [View.canon_unit_zero hz8]

/-- Cutting the point's block out of `X` and reading `X` through the block's view give the same. -/
theorem cut8_eq (t : Fin cfg0.N) (X : Vec F S12x2048x512 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6)) := by
  show (cfg0.win 8).cut (grid0.coords t) ((dats m 0 c).after 8 t) = _
  rw [after0_8, out8_eq, iblk0_eq, iblk1_eq, iblk2_eq, iblk3_eq, iblk4_eq, iblk5_eq, iblk6_eq]
  exact cut8_eq t _

/-- Every index of the array is in the point's block. -/
theorem covered8 (i : S12x2048x512.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 8 (G8 (V m c main_arg0) (V m c main_arg1) (V m c main_arg2) (V m c main_arg3) (V m c main_arg4) (V m c main_arg5) (V m c main_arg6)) (fun t _ => flushed8_eq m c t) covered8).trans (by rw [V_main_arg0, V_main_arg1, V_main_arg2, V_main_arg3, V_main_arg4, V_main_arg5, V_main_arg6])

/-! ### Output window 9: the array after the run -/

/-- What the window's array ends holding: `out0_9` applied to the argument arrays in place of the input blocks (a value that the
    frame states apart, `kK_payN a…`, keeps its loads inside its own definition). -/
abbrev G9 (a0 : Vec F S12x2048x512 .bf16) (a1 : Vec F S12x2048x512 .bf16) (a2 : Vec F S12x2048x512 .bf16) (a3 : Vec F S12x2048x512 .bf16) (a4 : Vec F S512x512 .fp8e4m3) (a5 : Vec F S512 .f32) (a6 : Vec F S512 .f32) : Vec F S12x2048 .f32 :=
  k0_pay12 (k0_pay21 a0 a1 a2 a3 a4 a5 a6) (k0_pay22 a0 a1 a2 a3 a4 a5 a6)

/-- The one store through the whole rectangle leaves its payload. -/
theorem out9_eq (a0 : Vec F S12x2048x512 .bf16) (a1 : Vec F S12x2048x512 .bf16) (a2 : Vec F S12x2048x512 .bf16) (a3 : Vec F S12x2048x512 .bf16) (a4 : Vec F S512x512 .fp8e4m3) (a5 : Vec F S512 .f32) (a6 : Vec F S512 .f32) : out0_9 (F := F) a0 a1 a2 a3 a4 a5 a6 = G9 a0 a1 a2 a3 a4 a5 a6 := by
  unfold out0_9
  rw [View.canon_unit_zero hz9]

/-- Cutting the point's block out of `X` and reading `X` through the block's view give the same. -/
theorem cut9_eq (t : Fin cfg0.N) (X : Vec F S12x2048 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6)) := by
  show (cfg0.win 9).cut (grid0.coords t) ((dats m 0 c).after 9 t) = _
  rw [after0_9, out9_eq, iblk0_eq, iblk1_eq, iblk2_eq, iblk3_eq, iblk4_eq, iblk5_eq, iblk6_eq]
  exact cut9_eq t _

/-- Every index of the array is in the point's block. -/
theorem covered9 (i : S12x2048.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 9 (G9 (V m c main_arg0) (V m c main_arg1) (V m c main_arg2) (V m c main_arg3) (V m c main_arg4) (V m c main_arg5) (V m c main_arg6)) (fun t _ => flushed9_eq m c t) covered9).trans (by rw [V_main_arg0, V_main_arg1, V_main_arg2, V_main_arg3, V_main_arg4, V_main_arg5, V_main_arg6])

/-! ### Output window 10: the array after the run -/

/-- What the window's array ends holding: `out0_10` applied to the argument arrays in place of the input blocks (a value that the
    frame states apart, `kK_payN a…`, keeps its loads inside its own definition). -/
abbrev G10 (a0 : Vec F S12x2048x512 .bf16) (a1 : Vec F S12x2048x512 .bf16) (a2 : Vec F S12x2048x512 .bf16) (a3 : Vec F S12x2048x512 .bf16) (a4 : Vec F S512x512 .fp8e4m3) (a5 : Vec F S512 .f32) (a6 : Vec F S512 .f32) : Vec F S12x2048x512 .fp8e4m3 :=
  k0_pay2 (k0_pay14 (k0_pay19 a0 a1 a2 a3 a4 a5 a6) (k0_pay20 a0 a1 a2 a3 a4 a5 a6) (k0_pay21 a0 a1 a2 a3 a4 a5 a6) (k0_pay22 a0 a1 a2 a3 a4 a5 a6) a4 a5 a6) (k0_pay23 a0 a1 a2 a3 a4 a5 a6) (k0_pay24 a0 a1 a2 a3 a4 a5 a6) (k0_pay25 a0 a1 a2 a3 a4 a5 a6)

/-- A load of the whole of a block reads the block, and the one store through the whole rectangle leaves its payload. -/
theorem out10_eq (a0 : Vec F S12x2048x512 .bf16) (a1 : Vec F S12x2048x512 .bf16) (a2 : Vec F S12x2048x512 .bf16) (a3 : Vec F S12x2048x512 .bf16) (a4 : Vec F S512x512 .fp8e4m3) (a5 : Vec F S512 .f32) (a6 : Vec F S512 .f32) : out0_10 (F := F) a0 a1 a2 a3 a4 a5 a6 = G10 a0 a1 a2 a3 a4 a5 a6 := by
  unfold out0_10
  rw [View.canon_unit_zero hz10, View.ld_unit_zero (S := S512x512) hz4 _ a4, View.ld_unit_zero (S := S512) hz5 _ a5, View.ld_unit_zero (S := S512) hz6 _ a6]

/-- Cutting the point's block out of `X` and reading `X` through the block's view give the same. -/
theorem cut10_eq (t : Fin cfg0.N) (X : Vec F S12x2048x512 .fp8e4m3) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6)) := by
  show (cfg0.win 10).cut (grid0.coords t) ((dats m 0 c).after 10 t) = _
  rw [after0_10, out10_eq, iblk0_eq, iblk1_eq, iblk2_eq, iblk3_eq, iblk4_eq, iblk5_eq, iblk6_eq]
  exact cut10_eq t _

/-- Every index of the array is in the point's block. -/
theorem covered10 (i : S12x2048x512.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 10 (G10 (V m c main_arg0) (V m c main_arg1) (V m c main_arg2) (V m c main_arg3) (V m c main_arg4) (V m c main_arg5) (V m c main_arg6)) (fun t _ => flushed10_eq m c t) covered10).trans (by rw [V_main_arg0, V_main_arg1, V_main_arg2, V_main_arg3, V_main_arg4, V_main_arg5, V_main_arg6])

/-! ### Output window 11: the array after the run -/

/-- What the window's array ends holding: `out0_11` applied to the argument arrays in place of the input blocks (a value that the
    frame states apart, `kK_payN a…`, keeps its loads inside its own definition). -/
abbrev G11 (a0 : Vec F S12x2048x512 .bf16) (a1 : Vec F S12x2048x512 .bf16) (a2 : Vec F S12x2048x512 .bf16) (a3 : Vec F S12x2048x512 .bf16) (a4 : Vec F S512x512 .fp8e4m3) (a5 : Vec F S512 .f32) (a6 : Vec F S512 .f32) : Vec F S12x2048 .f32 :=
  k0_pay3 (k0_pay23 a0 a1 a2 a3 a4 a5 a6) (k0_pay24 a0 a1 a2 a3 a4 a5 a6) (k0_pay25 a0 a1 a2 a3 a4 a5 a6)

/-- The one store through the whole rectangle leaves its payload. -/
theorem out11_eq (a0 : Vec F S12x2048x512 .bf16) (a1 : Vec F S12x2048x512 .bf16) (a2 : Vec F S12x2048x512 .bf16) (a3 : Vec F S12x2048x512 .bf16) (a4 : Vec F S512x512 .fp8e4m3) (a5 : Vec F S512 .f32) (a6 : Vec F S512 .f32) : out0_11 (F := F) a0 a1 a2 a3 a4 a5 a6 = G11 a0 a1 a2 a3 a4 a5 a6 := by
  unfold out0_11
  rw [View.canon_unit_zero hz11]

/-- Cutting the point's block out of `X` and reading `X` through the block's view give the same. -/
theorem cut11_eq (t : Fin cfg0.N) (X : Vec F S12x2048 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6)) := by
  show (cfg0.win 11).cut (grid0.coords t) ((dats m 0 c).after 11 t) = _
  rw [after0_11, out11_eq, iblk0_eq, iblk1_eq, iblk2_eq, iblk3_eq, iblk4_eq, iblk5_eq, iblk6_eq]
  exact cut11_eq t _

/-- Every index of the array is in the point's block. -/
theorem covered11 (i : S12x2048.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 11 (G11 (V m c main_arg0) (V m c main_arg1) (V m c main_arg2) (V m c main_arg3) (V m c main_arg4) (V m c main_arg5) (V m c main_arg6)) (fun t _ => flushed11_eq m c t) covered11).trans (by rw [V_main_arg0, V_main_arg1, V_main_arg2, V_main_arg3, V_main_arg4, V_main_arg5, V_main_arg6])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_3) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_4) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.Attn

end
-- ==== Proof.ReferenceRows.lean ====
module
public import proofs.«01_k».proof.Proof.ReferenceValue
public import proofs.«01_k».proof.Proof.Rows

@[expose] public section
set_option maxRecDepth 16384
noncomputable section
namespace Cert.ReferenceIdeal.Attn
open Idealize.ShloMosaic Cert.ReferenceIdeal Cert.ReferenceIdeal.Gen Cert.Attn
variable {F : FTy → Type} [FloatOps F] [Named F]

/-! ## The body's values as few vector functions of opaque operands -/

section Vectors

/-- The largest element of each row of a three-axis array. -/
def top512 (o : FVec F S12x2048x512 .f32) : FVec F S12x2048 .f32 :=
  multiReduction .maximumf [2] S12x2048 o 0xFF800000#32 reduces_S12x2048x512_S12x2048 (.inl rfl) rfl
def top2048 (o : FVec F S12x2048x2048 .f32) : FVec F S12x2048 .f32 :=
  multiReduction .maximumf [2] S12x2048 o 0xFF800000#32 reduces_S12x2048x2048_S12x2048 (.inl rfl) rfl
def scoreV (v2 v3 : Vec F S12x2048x512 .bf16) : FVec F S12x2048x2048 .f32 :=
  mulf (matmul dot_S12x2048x512_S12x2048x512_S12x2048x2048_2_2_1_1_0_0 none v2 v3 (constant S12x2048x2048 .f32 0x00000000#32)) (broadcast S12x2048x2048 (Named.named κ "score_scale" 0x3D3504F3#32))
def expV (v7 : FVec F S12x2048x2048 .f32) (m : FVec F S12x2048 .f32) : FVec F S12x2048x2048 .f32 :=
  exp (subf v7 (broadcastTo S12x2048x2048 (shapeCast S12x2048x1 (maximumf (broadcast S12x2048 (Scalar.ofBits .f32 0xFF800000#32)) m) shapeCasts_S12x2048_S12x2048x1) broadcasts_S12x2048x1_S12x2048x2048))
def avgV (v14 : FVec F S12x2048x2048 .f32) (v4 : Vec F S12x2048x512 .bf16) : FVec F S12x2048x512 .f32 :=
  matmul dot_S12x2048x2048_S12x2048x512_S12x2048x512_2_1_1_2_0_0 none (truncf .bf16 (divf v14 (broadcastTo S12x2048x2048 (shapeCast S12x2048x1 (multiReduction .add [2] S12x2048 v14 0x00000000#32 reduces_S12x2048x2048_S12x2048 (.inl rfl) rfl) shapeCasts_S12x2048_S12x2048x1) broadcasts_S12x2048x1_S12x2048x2048)) bitsLt_bf16_f32) v4 (constant S12x2048x512 .f32 0x00000000#32)
def thrV (m : FVec F S12x2048 .f32) : FVec F S12x2048 .f32 := mulf m (broadcast S12x2048 (Scalar.ofBits .f32 0x3B124925#32))
def exV (t : FVec F S12x2048 .f32) : FVec F S12x2048 .f32 :=
  select (cmpf .olt t (broadcast S12x2048 (Scalar.ofBits .f32 0x00800000#32))) (broadcast S12x2048 (Scalar.ofBits .f32 0x00000000#32))
    (addf (minimumf (floor (divf (log t) (log (broadcast S12x2048 (Scalar.ofBits .f32 0x40000000#32))))) (broadcast S12x2048 (Scalar.ofBits .f32 0x42EE0000#32)))
      (broadcast S12x2048 (Scalar.ofBits .f32 0x3F800000#32)))
def codeV (o : FVec F S12x2048x512 .f32) (e : FVec F S12x2048 .f32) : FVec F S12x2048x512 .fp8e4m3 :=
  truncf .fp8e4m3 (minimumf (broadcast S12x2048x512 (Scalar.ofBits .f32 0x43E00000#32)) (maximumf (broadcast S12x2048x512 (Scalar.ofBits .f32 0xC3E00000#32))
    (mulf o (broadcastTo S12x2048x512 (shapeCast S12x2048x1 (exp2 (subf (broadcast S12x2048 (Scalar.ofBits .f32 0x00000000#32)) e)) shapeCasts_S12x2048_S12x2048x1) broadcasts_S12x2048x1_S12x2048x512)))) bitsLt_fp8e4m3_f32
def projV (c : FVec F S12x2048x512 .fp8e4m3) (e : FVec F S12x2048 .f32) (w : Vec F S512x512 .fp8e4m3) (s b : Vec F S512 .f32) : FVec F S12x2048x512 .f32 :=
  addf (mulf (mulf (matmul dot_S12x2048x512_S512x512_S12x2048x512_2_0_01_1_n_n none c w (constant S12x2048x512 .f32 0x00000000#32))
    (broadcastTo S12x2048x512 (shapeCast S12x2048x1 (exp2 e) shapeCasts_S12x2048_S12x2048x1) broadcasts_S12x2048x1_S12x2048x512))
    (broadcastTo S12x2048x512 (shapeCast S1x1x512 s shapeCasts_S512_S1x1x512) broadcasts_S1x1x512_S12x2048x512))
    (broadcastTo S12x2048x512 (shapeCast S1x1x512 b shapeCasts_S512_S1x1x512) broadcasts_S1x1x512_S12x2048x512)
def yV (x : Vec F S12x2048x512 .bf16) (p : FVec F S12x2048x512 .f32) : FVec F S12x2048x512 .f32 := addf (extf .f32 x bitsLt_bf16_f32) p

/-- The attention, its threshold's exponent, the projection, the residual and its exponent, of the argument arrays. -/
def oA (q k v : Vec F S12x2048x512 .bf16) : FVec F S12x2048x512 .f32 := avgV (expV (scoreV q k) (top2048 (scoreV q k))) v
def eA (o : FVec F S12x2048x512 .f32) : FVec F S12x2048 .f32 := exV (thrV (top512 (absf o)))
def pA (o : FVec F S12x2048x512 .f32) (w : Vec F S512x512 .fp8e4m3) (s b : Vec F S512 .f32) : FVec F S12x2048x512 .f32 :=
  projV (codeV o (eA o)) (eA o) w s b

theorem pay6_def (q k v : Vec F S12x2048x512 .bf16) : k0_pay6 q k v = oA q k v := rfl
theorem pay7_def (q k v : Vec F S12x2048x512 .bf16) : k0_pay7 q k v = thrV (top512 (absf (oA q k v))) := rfl
theorem pay10_def (q k v : Vec F S12x2048x512 .bf16) : k0_pay10 (k0_pay8 q k v) (k0_pay9 q k v) = exV (k0_pay7 q k v) := rfl
theorem pay11_def (o : FVec F S12x2048x512 .f32) (e : FVec F S12x2048 .f32) (c : IVec S12x2048 1) : k0_pay11 o e c = codeV o (k0_pay10 e c) := rfl
theorem pay12_def (e : FVec F S12x2048 .f32) (c : IVec S12x2048 1) : k0_pay12 e c = exp2 (k0_pay10 e c) := rfl
theorem pay13_def (o : FVec F S12x2048x512 .f32) (e : FVec F S12x2048 .f32) (c : IVec S12x2048 1) (w : Vec F S512x512 .fp8e4m3) (s b : Vec F S512 .f32) :
    k0_pay13 o e c w s b = projV (codeV o (k0_pay10 e c)) (k0_pay10 e c) w s b := rfl
theorem pay14_def (x : Vec F S12x2048x512 .bf16) (o : FVec F S12x2048x512 .f32) (e : FVec F S12x2048 .f32) (c : IVec S12x2048 1) (w : Vec F S512x512 .fp8e4m3) (s b : Vec F S512 .f32) :
    k0_pay14 (k0_pay5 x) o e c w s b = yV x (k0_pay13 o e c w s b) := rfl
theorem pay1_def (x o : FVec F S12x2048x512 .f32) (e : FVec F S12x2048 .f32) (c : IVec S12x2048 1) (w : Vec F S512x512 .fp8e4m3) (s b : Vec F S512 .f32) :
    k0_pay1 (k0_pay16 x o e c w s b) (k0_pay17 x o e c w s b) k0_pay18 = eA (k0_pay14 x o e c w s b) := rfl
theorem pay2_def (y : FVec F S12x2048x512 .f32) (e : FVec F S12x2048 .f32) (c : IVec S12x2048 1) (z : FVec F S12x2048 .f32) :
    k0_pay2 y e c z = codeV y (k0_pay1 e c z) := rfl
theorem pay3_def (e : FVec F S12x2048 .f32) (c : IVec S12x2048 1) (z : FVec F S12x2048 .f32) : k0_pay3 e c z = exp2 (k0_pay1 e c z) := rfl

theorem pay10_eA (q k v : Vec F S12x2048x512 .bf16) : k0_pay10 (k0_pay8 q k v) (k0_pay9 q k v) = eA (oA q k v) := by
  rw [pay10_def, pay7_def]; rfl

variable (a0 a1 a2 a3 : Vec F S12x2048x512 .bf16) (a4 : Vec F S512x512 .fp8e4m3) (a5 a6 : Vec F S512 .f32)

theorem pay19_eq : k0_pay19 a0 a1 a2 a3 a4 a5 a6 = k0_pay5 a3 := by
  unfold k0_pay19; rw [View.ld_unit_zero (S := S12x2048x512) hz0 _ a3]
theorem pay20_eq : k0_pay20 a0 a1 a2 a3 a4 a5 a6 = oA a0 a1 a2 := by
  unfold k0_pay20
  rw [View.ld_unit_zero (S := S12x2048x512) hz0 _ a0, View.ld_unit_zero (S := S12x2048x512) hz0 _ a1, View.ld_unit_zero (S := S12x2048x512) hz0 _ a2, pay6_def]
theorem pay21_eq : k0_pay21 a0 a1 a2 a3 a4 a5 a6 = k0_pay8 a0 a1 a2 := by
  unfold k0_pay21
  rw [View.ld_unit_zero (S := S12x2048x512) hz0 _ a0, View.ld_unit_zero (S := S12x2048x512) hz0 _ a1, View.ld_unit_zero (S := S12x2048x512) hz0 _ a2]
theorem pay22_eq : k0_pay22 a0 a1 a2 a3 a4 a5 a6 = k0_pay9 a0 a1 a2 := by
  unfold k0_pay22
  rw [View.ld_unit_zero (S := S12x2048x512) hz0 _ a0, View.ld_unit_zero (S := S12x2048x512) hz0 _ a1, View.ld_unit_zero (S := S12x2048x512) hz0 _ a2]
theorem pay23_eq : k0_pay23 a0 a1 a2 a3 a4 a5 a6 = k0_pay16 (k0_pay5 a3) (oA a0 a1 a2) (k0_pay8 a0 a1 a2) (k0_pay9 a0 a1 a2) a4 a5 a6 := by
  unfold k0_pay23
  rw [pay19_eq, pay20_eq, pay21_eq, pay22_eq, View.ld_unit_zero (S := S512x512) hz4 _ a4, View.ld_unit_zero (S := S512) hz5 _ a5, View.ld_unit_zero (S := S512) hz6 _ a6]
theorem pay24_eq : k0_pay24 a0 a1 a2 a3 a4 a5 a6 = k0_pay17 (k0_pay5 a3) (oA a0 a1 a2) (k0_pay8 a0 a1 a2) (k0_pay9 a0 a1 a2) a4 a5 a6 := by
  unfold k0_pay24
  rw [pay19_eq, pay20_eq, pay21_eq, pay22_eq, View.ld_unit_zero (S := S512x512) hz4 _ a4, View.ld_unit_zero (S := S512) hz5 _ a5, View.ld_unit_zero (S := S512) hz6 _ a6]
theorem pay25_eq : k0_pay25 a0 a1 a2 a3 a4 a5 a6 = k0_pay18 := rfl

theorem G7_vec : G7 a0 a1 a2 a3 a4 a5 a6 = k0_pay4 (pA (oA a0 a1 a2) a4 a5 a6) := by
  unfold G7; rw [pay20_eq, pay21_eq, pay22_eq, pay13_def, pay10_eA]; rfl
theorem G8_vec : G8 a0 a1 a2 a3 a4 a5 a6 = codeV (oA a0 a1 a2) (eA (oA a0 a1 a2)) := by
  unfold G8; rw [pay20_eq, pay21_eq, pay22_eq, pay11_def, pay10_eA]
theorem G9_vec : G9 a0 a1 a2 a3 a4 a5 a6 = exp2 (eA (oA a0 a1 a2)) := by
  unfold G9; rw [pay21_eq, pay22_eq, pay12_def, pay10_eA]
theorem pay14_pA : k0_pay14 (k0_pay5 a3) (oA a0 a1 a2) (k0_pay8 a0 a1 a2) (k0_pay9 a0 a1 a2) a4 a5 a6 = yV a3 (pA (oA a0 a1 a2) a4 a5 a6) := by
  rw [pay14_def, pay13_def, pay10_eA]; rfl
theorem G10_vec : G10 a0 a1 a2 a3 a4 a5 a6 = codeV (yV a3 (pA (oA a0 a1 a2) a4 a5 a6)) (eA (yV a3 (pA (oA a0 a1 a2) a4 a5 a6))) := by
  unfold G10
  rw [pay23_eq, pay24_eq, pay25_eq, pay19_eq, pay20_eq, pay21_eq, pay22_eq, pay2_def, pay1_def, pay14_pA]
theorem G11_vec : G11 a0 a1 a2 a3 a4 a5 a6 = exp2 (eA (yV a3 (pA (oA a0 a1 a2) a4 a5 a6))) := by
  unfold G11
  rw [pay23_eq, pay24_eq, pay25_eq, pay3_def, pay1_def, pay14_pA]

end Vectors

end Cert.ReferenceIdeal.Attn
end
-- ==== Proof.ReferenceRead.lean ====
module
public import proofs.«01_k».proof.Proof.ReferenceRows
public import Idealize.ShloMosaic.Lib.Pointwise

@[expose] public section
set_option maxRecDepth 16384
noncomputable section
namespace Cert.ReferenceIdeal.Attn
open Idealize.ShloMosaic Cert.ReferenceIdeal Cert.ReferenceIdeal.Gen Cert.Attn

/-- A maximum over the last of three axes, read at an index: the fold of `max` along that axis. -/
theorem maxReduce3 {n0 n1 n2 : Nat} (x : FVec Ideal ⟨3, ![n0, n1, n2]⟩ .f32) (acc : BitVec 32)
    (h : (⟨3, ![n0, n1, n2]⟩ : Shape).Reduces [2] ⟨2, ![n0, n1]⟩) (hφ : FKind.Formats .f32)
    (hacc : acc = FKind.maximumf.neutral .f32 hφ) (a : Fin n0) (b : Fin n1) :
    multiReduction .maximumf [2] ⟨2, ![n0, n1]⟩ x acc h hφ hacc (ix2 a b)
      = Finset.univ.fold max (Ideal.ofBits .f32 acc) fun k : Fin n2 => x (ix3 a b k) := by
  rw [multiReduction_maximumf_eq_fold, Shape.Reduces.fold_fiber_r3_a2]
  rfl

theorem top512_at (x : FVec Ideal S12x2048x512 .f32) (b : Fin 12) (r : Fin 2048) :
    top512 x (ix2 b r) = Finset.univ.fold max (Ideal.ofBits .f32 0xFF800000#32) fun d : Fin 512 => x (ix3 b r d) :=
  maxReduce3 x _ reduces_S12x2048x512_S12x2048 (.inl rfl) rfl b r
theorem top2048_at (x : FVec Ideal S12x2048x2048 .f32) (b : Fin 12) (r : Fin 2048) :
    top2048 x (ix2 b r) = Finset.univ.fold max (Ideal.ofBits .f32 0xFF800000#32) fun d : Fin 2048 => x (ix3 b r d) :=
  maxReduce3 x _ reduces_S12x2048x2048_S12x2048 (.inl rfl) rfl b r
theorem scoreV_at (v2 v3 : Vec Ideal S12x2048x512 .bf16) (b : Fin 12) (r j : Fin 2048) :
    scoreV v2 v3 (ix3 b r j) = (∑ d : Fin 512, v2 (ix3 b r d) * v3 (ix3 b j d)) * Named.named (F := Ideal) (φ := .f32) κ "score_scale" 0x3D3504F3#32 := by
  pointwise [scoreV]
theorem expV_at (s : FVec Ideal S12x2048x2048 .f32) (m : FVec Ideal S12x2048 .f32) (b : Fin 12) (r j : Fin 2048) :
    expV s m (ix3 b r j) = Ideal.exp (s (ix3 b r j) - max (Ideal.ofBits .f32 0xFF800000#32) (m (ix2 b r))) := by
  pointwise [expV]
theorem avgV_at (p : FVec Ideal S12x2048x2048 .f32) (v4 : Vec Ideal S12x2048x512 .bf16) (b : Fin 12) (r : Fin 2048) (d : Fin 512) :
    avgV p v4 (ix3 b r d) = ∑ j : Fin 2048, Ideal.div (p (ix3 b r j)) (∑ i : Fin 2048, p (ix3 b r i)) * v4 (ix3 b j d) := by
  pointwise [avgV]
theorem thrV_at (m : FVec Ideal S12x2048 .f32) (b : Fin 12) (r : Fin 2048) :
    thrV m (ix2 b r) = m (ix2 b r) * Ideal.ofBits .f32 0x3B124925#32 := by
  pointwise [thrV]
theorem exV_at (t : FVec Ideal S12x2048 .f32) (b : Fin 12) (r : Fin 2048) : exV t (ix2 b r) = ex (t (ix2 b r)) := by
  unfold ex
  rw [← bits_one]
  pointwise [exV]
theorem exp2_at (e : FVec Ideal S12x2048 .f32) (b : Fin 12) (r : Fin 2048) : exp2 e (ix2 b r) = Ideal.exp2 (e (ix2 b r)) := rfl
theorem absf_at (o : FVec Ideal S12x2048x512 .f32) (b : Fin 12) (r : Fin 2048) (d : Fin 512) :
    absf o (ix3 b r d) = FloatOps.absf (F := Ideal) (φ := .f32) (o (ix3 b r d)) := rfl
theorem codeV_at (o : FVec Ideal S12x2048x512 .f32) (e : FVec Ideal S12x2048 .f32) (b : Fin 12) (r : Fin 2048) (d : Fin 512) :
    codeV o e (ix3 b r d) = clip (o (ix3 b r d)) (Ideal.exp2 (0 - e (ix2 b r))) := by
  unfold clip
  pointwise [codeV]
  simp only [exp2_op]
theorem projV_at (c : FVec Ideal S12x2048x512 .fp8e4m3) (e : FVec Ideal S12x2048 .f32) (w : Vec Ideal S512x512 .fp8e4m3) (s a : Vec Ideal S512 .f32)
    (b : Fin 12) (r : Fin 2048) (d : Fin 512) :
    projV c e w s a (ix3 b r d) = (∑ j : Fin 512, c (ix3 b r j) * w (ix2 j d)) * Ideal.exp2 (e (ix2 b r)) * s (ix1 d) + a (ix1 d) := by
  pointwise [projV]
  simp only [exp2_op]
theorem yV_at (x : Vec Ideal S12x2048x512 .bf16) (p : FVec Ideal S12x2048x512 .f32) (b : Fin 12) (r : Fin 2048) (d : Fin 512) :
    yV x p (ix3 b r d) = x (ix3 b r d) + p (ix3 b r d) := rfl
theorem pay4_at (p : FVec Ideal S12x2048x512 .f32) (b : Fin 12) (r : Fin 2048) (d : Fin 512) :
    k0_pay4 p (ix3 b r d) = p (ix3 b r d) := rfl
theorem named_scale : Named.named (F := Ideal) (φ := .f32) κ "score_scale" 0x3D3504F3#32 = (cR : EReal) := rfl

/-- The attention array, read. -/
theorem oA_at (q k v : Vec Ideal S12x2048x512 .bf16) (b : Fin 12) (r : Fin 2048) (d : Fin 512) :
    oA q k v (ix3 b r d) = rowO (fun d => q (ix3 b r d)) (fun j d => k (ix3 b j d)) (fun j d => v (ix3 b j d)) d := by
  unfold oA rowO attR score
  rw [avgV_at]
  simp only [expV_at, top2048_at, scoreV_at, named_scale]

theorem eA_at (o : FVec Ideal S12x2048x512 .f32) (b : Fin 12) (r : Fin 2048) :
    eA o (ix2 b r) = ex (thr fun d => o (ix3 b r d)) := by
  unfold eA thr
  rw [exV_at, thrV_at, top512_at]
  simp only [absf_at]

theorem codeA_at (o : FVec Ideal S12x2048x512 .f32) (b : Fin 12) (r : Fin 2048) (d : Fin 512) :
    codeV o (eA o) (ix3 b r d) = quantC (fun d => o (ix3 b r d)) d := by
  rw [codeV_at, eA_at]; rfl
theorem scaleA_at (o : FVec Ideal S12x2048x512 .f32) (b : Fin 12) (r : Fin 2048) :
    exp2 (eA o) (ix2 b r) = quantS (fun d => o (ix3 b r d)) := by
  rw [exp2_at, eA_at]; rfl

theorem pA_at (o : FVec Ideal S12x2048x512 .f32) (w : Vec Ideal S512x512 .fp8e4m3) (s a : Vec Ideal S512 .f32) (b : Fin 12) (r : Fin 2048) (d : Fin 512) :
    pA o w s a (ix3 b r d) = rowP (fun d => o (ix3 b r d)) (fun j d => w (ix2 j d)) (fun d => s (ix1 d)) (fun d => a (ix1 d)) d := by
  unfold pA rowP
  rw [projV_at, eA_at]
  simp only [codeA_at]
  rfl

/-! ## The five results at an index -/

variable (a0 a1 a2 a3 : Vec Ideal S12x2048x512 .bf16) (a4 : Vec Ideal S512x512 .fp8e4m3) (a5 a6 : Vec Ideal S512 .f32)

/-- The attention row, the projected row and the residual row of token `r` of image `b`, of the argument arrays. -/
def fO (b : Fin 12) (r : Fin 2048) : Fin 512 → EReal :=
  rowO (fun d => a0 (ix3 b r d)) (fun j d => a1 (ix3 b j d)) (fun j d => a2 (ix3 b j d))
def fP (b : Fin 12) (r : Fin 2048) : Fin 512 → EReal :=
  rowP (fO a0 a1 a2 b r) (fun j d => a4 (ix2 j d)) (fun d => a5 (ix1 d)) (fun d => a6 (ix1 d))
def fY (b : Fin 12) (r : Fin 2048) : Fin 512 → EReal := rowY (fun d => a3 (ix3 b r d)) (fP a0 a1 a2 a4 a5 a6 b r)

theorem fO_eq (b : Fin 12) (r : Fin 2048) : (fun d => oA a0 a1 a2 (ix3 b r d)) = fO a0 a1 a2 b r := funext fun d => oA_at a0 a1 a2 b r d
theorem fP_eq (b : Fin 12) (r : Fin 2048) : (fun d => pA (oA a0 a1 a2) a4 a5 a6 (ix3 b r d)) = fP a0 a1 a2 a4 a5 a6 b r := by
  funext d; rw [pA_at, fO_eq]; rfl
theorem fY_eq (b : Fin 12) (r : Fin 2048) : (fun d => yV a3 (pA (oA a0 a1 a2) a4 a5 a6) (ix3 b r d)) = fY a0 a1 a2 a3 a4 a5 a6 b r := by
  funext d; rw [yV_at]; exact congrArg (a3 (ix3 b r d) + ·) (congrFun (fP_eq a0 a1 a2 a4 a5 a6 b r) d)

theorem G7_at (b : Fin 12) (r : Fin 2048) (d : Fin 512) : G7 a0 a1 a2 a3 a4 a5 a6 (ix3 b r d) = fP a0 a1 a2 a4 a5 a6 b r d := by
  rw [G7_vec, pay4_at]; exact congrFun (fP_eq a0 a1 a2 a4 a5 a6 b r) d
theorem G8_at (b : Fin 12) (r : Fin 2048) (d : Fin 512) : G8 a0 a1 a2 a3 a4 a5 a6 (ix3 b r d) = quantC (fO a0 a1 a2 b r) d := by
  rw [G8_vec, codeA_at, fO_eq]
theorem G9_at (b : Fin 12) (r : Fin 2048) : G9 a0 a1 a2 a3 a4 a5 a6 (ix2 b r) = quantS (fO a0 a1 a2 b r) := by
  rw [G9_vec, scaleA_at, fO_eq]
theorem G10_at (b : Fin 12) (r : Fin 2048) (d : Fin 512) : G10 a0 a1 a2 a3 a4 a5 a6 (ix3 b r d) = quantC (fY a0 a1 a2 a3 a4 a5 a6 b r) d := by
  rw [G10_vec, codeA_at, fY_eq]
theorem G11_at (b : Fin 12) (r : Fin 2048) : G11 a0 a1 a2 a3 a4 a5 a6 (ix2 b r) = quantS (fY a0 a1 a2 a3 a4 a5 a6 b r) := by
  rw [G11_vec, scaleA_at, fY_eq]

end Cert.ReferenceIdeal.Attn
end
-- ==== Proof.KernelIdealBlocks.lean ====
/-
  The input blocks of the attention call at a grid point, read at an index: point `t` reads image `t / 4`, and the rows
  from `512 · (t % 4)` on of the queries and of the residual. So the rows that the body computes from its blocks are the
  rows of the whole arrays.
-/
module

public import proofs.«01_k».proof.Proof.KernelIdealRun
public import proofs.«01_k».proof.Proof.KernelIdealRead
public import proofs.«01_k».proof.Proof.ReferenceRead
public import Idealize.ShloMosaic.Lib.Claim

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen Cert.Attn
open Cert.ReferenceIdeal.Attn (fO fP fY)

variable (m : (ℓ : Loc nD τ sig) → Buf (Elt Ideal) ℓ) (c : Dev nD)

/-! ## The arguments -/

def aQ : Vec Ideal S12x2048x512 .bf16 := m ((c : Thread nD τ).loc main_arg0)
def aK : Vec Ideal S12x2048x512 .bf16 := m ((c : Thread nD τ).loc main_arg1)
def aV : Vec Ideal S12x2048x512 .bf16 := m ((c : Thread nD τ).loc main_arg2)
def aX : Vec Ideal S12x2048x512 .bf16 := m ((c : Thread nD τ).loc main_arg3)
def aW : Vec Ideal S512x512 .fp8e4m3 := m ((c : Thread nD τ).loc main_arg4)
def aS : Vec Ideal S512 .f32 := m ((c : Thread nD τ).loc main_arg5)
def aB : Vec Ideal S512 .f32 := m ((c : Thread nD τ).loc main_arg6)

/-! ## Where a point's blocks lie -/

theorem point_lt (t : Fin cfg0.N) : t.val < 48 := t.isLt

/-- The image of point `t`. -/
def imgOf (t : Fin cfg0.N) : Fin 12 := ⟨t.val / 4, by have := point_lt t; omega⟩
/-- The row of the image that is row `r` of the block. -/
def rowOf (t : Fin cfg0.N) (r : Fin 512) : Fin 2048 := ⟨t.val % 4 * 512 + r.val, by have := r.isLt; omega⟩

theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 3) = t.val / 4 ∧ win0_7.index t (1 : Fin 3) = t.val % 4 ∧ win0_7.index t (2 : Fin 3) = 0 :=
  (by decide +kernel : ∀ t : Fin grid0.N, _)
theorem idx8 : ∀ t : Fin cfg0.N, win0_8.index t (0 : Fin 3) = t.val / 4 ∧ win0_8.index t (1 : Fin 3) = t.val % 4 ∧ win0_8.index t (2 : Fin 3) = 0 :=
  (by decide +kernel : ∀ t : Fin grid0.N, _)
theorem idx10 : ∀ t : Fin cfg0.N, win0_10.index t (0 : Fin 3) = t.val / 4 ∧ win0_10.index t (1 : Fin 3) = t.val % 4 ∧ win0_10.index t (2 : Fin 3) = 0 :=
  (by decide +kernel : ∀ t : Fin grid0.N, _)

theorem emb0 (t : Fin cfg0.N) (r d : Fin 512) : ((cfg0.win 0).blk t).view.emb (ix3 0 r d) = ix3 (imgOf t) (rowOf t r) d := by
  obtain ⟨e0, e1, e2⟩ := idx0 t
  funext a; apply Fin.ext
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 512 + 1 * d.val = d.val; omega
theorem emb1 (t : Fin cfg0.N) (j : Fin 2048) (d : Fin 512) : ((cfg0.win 1).blk t).view.emb (ix3 0 j d) = ix3 (imgOf t) j d := by
  obtain ⟨e0, e1, e2⟩ := idx1 t
  funext a; apply Fin.ext
  match a with
  | ⟨0, _⟩ => show win0_1.index t (0 : Fin 3) * 1 + 1 * 0 = t.val / 4; omega
  | ⟨1, _⟩ => show win0_1.index t (1 : Fin 3) * 2048 + 1 * j.val = j.val; omega
  | ⟨2, _⟩ => show win0_1.index t (2 : Fin 3) * 512 + 1 * d.val = d.val; omega
theorem emb2 (t : Fin cfg0.N) (j : Fin 2048) (d : Fin 512) : ((cfg0.win 2).blk t).view.emb (ix3 0 j d) = ix3 (imgOf t) j d := by
  obtain ⟨e0, e1, e2⟩ := idx2 t
  funext a; apply Fin.ext
  match a with
  | ⟨0, _⟩ => show win0_2.index t (0 : Fin 3) * 1 + 1 * 0 = t.val / 4; omega
  | ⟨1, _⟩ => show win0_2.index t (1 : Fin 3) * 2048 + 1 * j.val = j.val; omega
  | ⟨2, _⟩ => show win0_2.index t (2 : Fin 3) * 512 + 1 * d.val = d.val; omega
theorem emb3 (t : Fin cfg0.N) (r d : Fin 512) : ((cfg0.win 3).blk t).view.emb (ix3 0 r d) = ix3 (imgOf t) (rowOf t r) d := by
  obtain ⟨e0, e1, e2⟩ := idx3 t
  funext a; apply Fin.ext
  match a with
  | ⟨0, _⟩ => show win0_3.index t (0 : Fin 3) * 1 + 1 * 0 = t.val / 4; omega
  | ⟨1, _⟩ => show win0_3.index t (1 : Fin 3) * 512 + 1 * r.val = t.val % 4 * 512 + r.val; omega
  | ⟨2, _⟩ => show win0_3.index t (2 : Fin 3) * 512 + 1 * d.val = d.val; omega
theorem emb4 (t : Fin cfg0.N) (j d : Fin 512) : ((cfg0.win 4).blk t).view.emb (ix2 j d) = ix2 j d := by
  obtain ⟨e0, e1⟩ := idx4 t
  funext a; apply Fin.ext
  match a with
  | ⟨0, _⟩ => show win0_4.index t (0 : Fin 2) * 512 + 1 * j.val = j.val; omega
  | ⟨1, _⟩ => show win0_4.index t (1 : Fin 2) * 512 + 1 * d.val = d.val; omega
theorem emb5 (t : Fin cfg0.N) (d : Fin 512) : ((cfg0.win 5).blk t).view.emb (ix2 0 d) = ix2 0 d := by
  obtain ⟨e0, e1⟩ := idx5 t
  funext a; apply Fin.ext
  match a with
  | ⟨0, _⟩ => show win0_5.index t (0 : Fin 2) * 1 + 1 * 0 = 0; omega
  | ⟨1, _⟩ => show win0_5.index t (1 : Fin 2) * 512 + 1 * d.val = d.val; omega
theorem emb6 (t : Fin cfg0.N) (d : Fin 512) : ((cfg0.win 6).blk t).view.emb (ix2 0 d) = ix2 0 d := by
  obtain ⟨e0, e1⟩ := idx6 t
  funext a; apply Fin.ext
  match a with
  | ⟨0, _⟩ => show win0_6.index t (0 : Fin 2) * 1 + 1 * 0 = 0; omega
  | ⟨1, _⟩ => show win0_6.index t (1 : Fin 2) * 512 + 1 * d.val = d.val; omega
theorem emb7 (t : Fin cfg0.N) (r d : Fin 512) : ((cfg0.win 7).blk t).view.emb (ix3 0 r d) = ix3 (imgOf t) (rowOf t r) d := by
  obtain ⟨e0, e1, e2⟩ := idx7 t
  funext a; apply Fin.ext
  match a with
  | ⟨0, _⟩ => show win0_7.index t (0 : Fin 3) * 1 + 1 * 0 = t.val / 4; omega
  | ⟨1, _⟩ => show win0_7.index t (1 : Fin 3) * 512 + 1 * r.val = t.val % 4 * 512 + r.val; omega
  | ⟨2, _⟩ => show win0_7.index t (2 : Fin 3) * 512 + 1 * d.val = d.val; omega
theorem emb8 (t : Fin cfg0.N) (r d : Fin 512) : ((cfg0.win 8).blk t).view.emb (ix3 0 r d) = ix3 (imgOf t) (rowOf t r) d := by
  obtain ⟨e0, e1, e2⟩ := idx8 t
  funext a; apply Fin.ext
  match a with
  | ⟨0, _⟩ => show win0_8.index t (0 : Fin 3) * 1 + 1 * 0 = t.val / 4; omega
  | ⟨1, _⟩ => show win0_8.index t (1 : Fin 3) * 512 + 1 * r.val = t.val % 4 * 512 + r.val; omega
  | ⟨2, _⟩ => show win0_8.index t (2 : Fin 3) * 512 + 1 * d.val = d.val; omega
theorem emb10 (t : Fin cfg0.N) (r d : Fin 512) : ((cfg0.win 10).blk t).view.emb (ix3 0 r d) = ix3 (imgOf t) (rowOf t r) d := by
  obtain ⟨e0, e1, e2⟩ := idx10 t
  funext a; apply Fin.ext
  match a with
  | ⟨0, _⟩ => show win0_10.index t (0 : Fin 3) * 1 + 1 * 0 = t.val / 4; omega
  | ⟨1, _⟩ => show win0_10.index t (1 : Fin 3) * 512 + 1 * r.val = t.val % 4 * 512 + r.val; omega
  | ⟨2, _⟩ => show win0_10.index t (2 : Fin 3) * 512 + 1 * d.val = d.val; omega

/-! ## The input blocks at an index -/

theorem iblk0_at (t : Fin cfg0.N) (r d : Fin 512) : iblk m c 0 t (ix3 0 r d) = aQ m c (ix3 (imgOf t) (rowOf t r) d) := by
  show V m c main_arg0 (((cfg0.win 0).blk t).view.emb (ix3 0 r d)) = _
  rw [emb0, V_main_arg0]; rfl
theorem iblk1_at (t : Fin cfg0.N) (j : Fin 2048) (d : Fin 512) : iblk m c 1 t (ix3 0 j d) = aK m c (ix3 (imgOf t) j d) := by
  show V m c main_arg1 (((cfg0.win 1).blk t).view.emb (ix3 0 j d)) = _
  rw [emb1, V_main_arg1]; rfl
theorem iblk2_at (t : Fin cfg0.N) (j : Fin 2048) (d : Fin 512) : iblk m c 2 t (ix3 0 j d) = aV m c (ix3 (imgOf t) j d) := by
  show V m c main_arg2 (((cfg0.win 2).blk t).view.emb (ix3 0 j d)) = _
  rw [emb2, V_main_arg2]; rfl
theorem iblk3_at (t : Fin cfg0.N) (r d : Fin 512) : iblk m c 3 t (ix3 0 r d) = aX m c (ix3 (imgOf t) (rowOf t r) d) := by
  show V m c main_arg3 (((cfg0.win 3).blk t).view.emb (ix3 0 r d)) = _
  rw [emb3, V_main_arg3]; rfl
theorem iblk4_at (t : Fin cfg0.N) (j d : Fin 512) : iblk m c 4 t (ix2 j d) = aW m c (ix2 j d) := by
  show V m c main_arg4 (((cfg0.win 4).blk t).view.emb (ix2 j d)) = _
  rw [emb4, V_main_arg4]; rfl
theorem row_of_vec (s : Vec Ideal S512 .f32) (d : Fin 512) : (shapeCast S1x512 s : Vec Ideal S1x512 .f32) (ix2 0 d) = s (ix1 d) := by
  pointwise
theorem iblk5_at (t : Fin cfg0.N) (d : Fin 512) : iblk m c 5 t (ix2 0 d) = aS m c (ix1 d) := by
  show V m c main_v0 (((cfg0.win 5).blk t).view.emb (ix2 0 d)) = _
  rw [emb5]; entry_read; exact row_of_vec _ d
theorem iblk6_at (t : Fin cfg0.N) (d : Fin 512) : iblk m c 6 t (ix2 0 d) = aB m c (ix1 d) := by
  show V m c main_v1 (((cfg0.win 6).blk t).view.emb (ix2 0 d)) = _
  rw [emb6]; entry_read; exact row_of_vec _ d

/-! ## The rows of the blocks are rows of the arrays -/

theorem bO_eq (t : Fin cfg0.N) (r : Fin 512) : bO (iblk m c 0 t) (iblk m c 1 t) (iblk m c 2 t) r = fO (aQ m c) (aK m c) (aV m c) (imgOf t) (rowOf t r) := by
  unfold bO fO
  simp only [iblk0_at, iblk1_at, iblk2_at]
theorem bP_eq (t : Fin cfg0.N) (r : Fin 512) :
    bP (iblk m c 0 t) (iblk m c 1 t) (iblk m c 2 t) (iblk m c 4 t) (iblk m c 5 t) (iblk m c 6 t) r
      = fP (aQ m c) (aK m c) (aV m c) (aW m c) (aS m c) (aB m c) (imgOf t) (rowOf t r) := by
  unfold bP fP
  simp only [bO_eq, iblk4_at, iblk5_at, iblk6_at]
theorem bY_eq (t : Fin cfg0.N) (r : Fin 512) :
    bY (iblk m c 0 t) (iblk m c 1 t) (iblk m c 2 t) (iblk m c 3 t) (iblk m c 4 t) (iblk m c 5 t) (iblk m c 6 t) r
      = fY (aQ m c) (aK m c) (aV m c) (aX m c) (aW m c) (aS m c) (aB m c) (imgOf t) (rowOf t r) := by
  unfold bY fY
  simp only [bP_eq, iblk3_at]

end Cert.KernelIdeal.Attn
-- ==== Proof.KernelIdealValue.lean ====
/-
  What the attention call leaves in its five result arrays, with real queries and keys: the reference's five functions of
  the arguments. A tiled result is read block by block. A scale array is written back once, after the last point, when
  every segment is filled.
-/
module

public import proofs.«01_k».proof.Proof.KernelIdealBlocks

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen Cert.Attn
open Idealize.SL.Sem
open Cert.ReferenceIdeal.Attn (fO fP fY G7 G8 G9 G10 G11 G7_at G8_at G9_at G10_at G11_at)

variable (m : (ℓ : Loc nD τ sig) → Buf (Elt Ideal) ℓ) (ρ : Dev nD → PrngReg) (c : Dev nD)

/-- The queries and the keys are real. -/
def RealQK : Prop :=
  (∀ b r d, ∃ x : ℝ, aQ m c (ix3 b r d) = x) ∧ ∀ b r d, ∃ x : ℝ, aK m c (ix3 b r d) = x

variable (h : RealQK m c)

include h

theorem real0 (t : Fin cfg0.N) (r d : Fin 512) : ∃ x : ℝ, iblk m c 0 t (ix3 0 r d) = (x : EReal) := by
  rw [iblk0_at]; exact h.1 _ _ _
theorem real1 (t : Fin cfg0.N) (j : Fin 2048) (d : Fin 512) : ∃ x : ℝ, iblk m c 1 t (ix3 0 j d) = (x : EReal) := by
  rw [iblk1_at]; exact h.2 _ _ _

/-! ## What a point leaves -/

theorem left7 (t : Fin cfg0.N) (r d : Fin 512) :
    out7 (iblk m c 0 t) (iblk m c 1 t) (iblk m c 2 t) (iblk m c 4 t) (iblk m c 5 t) (iblk m c 6 t) (ix3 0 r d)
      = G7 (aQ m c) (aK m c) (aV m c) (aX m c) (aW m c) (aS m c) (aB m c) (ix3 (imgOf t) (rowOf t r) d) :=
  (out7_at _ _ _ _ _ _ (real0 m c h t) (real1 m c h t) r d).trans ((congrFun (bP_eq m c t r) d).trans (G7_at _ _ _ _ _ _ _ _ _ _).symm)
theorem left8 (t : Fin cfg0.N) (r d : Fin 512) :
    out8 (iblk m c 0 t) (iblk m c 1 t) (iblk m c 2 t) (ix3 0 r d)
      = G8 (aQ m c) (aK m c) (aV m c) (aX m c) (aW m c) (aS m c) (aB m c) (ix3 (imgOf t) (rowOf t r) d) :=
  (out8_at _ _ _ (real0 m c h t) (real1 m c h t) r d).trans
    ((congrArg (quantC · d) (bO_eq m c t r)).trans (G8_at _ _ _ _ _ _ _ _ _ _).symm)
theorem left9 (t : Fin cfg0.N) (l : Fin 512) :
    seg9 m c t (ix2 0 l) = G9 (aQ m c) (aK m c) (aV m c) (aX m c) (aW m c) (aS m c) (aB m c) (ix2 (imgOf t) (rowOf t l)) :=
  (row9_at _ _ _ (real0 m c h t) (real1 m c h t) l).trans ((congrArg quantS (bO_eq m c t l)).trans (G9_at _ _ _ _ _ _ _ _ _).symm)
theorem left10 (t : Fin cfg0.N) (r d : Fin 512) :
    out10 (iblk m c 0 t) (iblk m c 1 t) (iblk m c 2 t) (iblk m c 3 t) (iblk m c 4 t) (iblk m c 5 t) (iblk m c 6 t) (ix3 0 r d)
      = G10 (aQ m c) (aK m c) (aV m c) (aX m c) (aW m c) (aS m c) (aB m c) (ix3 (imgOf t) (rowOf t r) d) :=
  (out10_at _ _ _ _ _ _ _ (real0 m c h t) (real1 m c h t) r d).trans
    ((congrArg (quantC · d) (bY_eq m c t r)).trans (G10_at _ _ _ _ _ _ _ _ _ _).symm)
theorem left11 (t : Fin cfg0.N) (l : Fin 512) :
    seg11 m c t (ix2 0 l) = G11 (aQ m c) (aK m c) (aV m c) (aX m c) (aW m c) (aS m c) (aB m c) (ix2 (imgOf t) (rowOf t l)) :=
  (row11_at _ _ _ _ _ _ _ (real0 m c h t) (real1 m c h t) l).trans ((congrArg quantS (bY_eq m c t l)).trans (G11_at _ _ _ _ _ _ _ _ _).symm)

omit h

/-- An index of a block of 512 rows. -/
theorem block_idx (y : S1x512x512.Idx) : ∃ r d : Fin 512, y = ix3 0 r d := by
  refine ⟨y 1, y 2, ?_⟩
  funext a; apply Fin.ext
  match a with
  | ⟨0, _⟩ => show (y 0).val = 0; have : (y 0).val < 1 := (y 0).isLt; omega
  | ⟨1, _⟩ => rfl
  | ⟨2, _⟩ => rfl

/-- An index of a per-token array is a lane of one point's segment. -/
theorem seg_onto (i : S12x2048.Idx) : ∃ (t : Fin cfg0.N) (l : Fin 512),
    (rSeg (grid0.coords t)).emb (ix2 0 l) = i ∧ ix2 (imgOf t) (rowOf t l) = i := by
  have h0 : (i 0).val < 12 := (i 0).isLt
  have h1 : (i 1).val < 2048 := (i 1).isLt
  let t : Fin cfg0.N := (⟨4 * (i 0).val + (i 1).val / 512, by omega⟩ : Fin 48)
  have ht : t.val = 4 * (i 0).val + (i 1).val / 512 := rfl
  have ho := off_eq t
  refine ⟨t, ⟨(i 1).val % 512, by omega⟩, ?_, ?_⟩
  · funext a; apply Fin.ext
    match a with
    | ⟨0, _⟩ => show k0_off1 (grid0.coords t) 0 + 1 * 0 = (i 0).val; rw [ho.1]; omega
    | ⟨1, _⟩ => show k0_off1 (grid0.coords t) 1 + 1 * ((i 1).val % 512) = (i 1).val; rw [ho.2]; omega
  · funext a; apply Fin.ext
    match a with
    | ⟨0, _⟩ => show t.val / 4 = (i 0).val; omega
    | ⟨1, _⟩ => show t.val % 4 * 512 + (i 1).val % 512 = (i 1).val; omega

/-- The last point. -/
def lastPt : Fin cfg0.N := (⟨47, by decide⟩ : Fin 48)

/-- A per-token array with every segment filled. -/
theorem filled_all (row : Fin cfg0.N → S1x512.Idx → Elt Ideal .f32) (X G : S12x2048.Idx → Elt Ideal .f32)
    (hX : Filled row lastPt X) (hG : ∀ t l, row t (ix2 0 l) = G (ix2 (imgOf t) (rowOf t l))) : X = G := by
  funext i
  obtain ⟨t, l, e, e'⟩ := seg_onto i
  rw [← e, hX t (by have := point_lt t; show t.val ≤ 47; omega) (ix2 0 l), hG t l, e', e]

/-! ## The arrays after the run -/

/-- What the body leaves in an exact window is what the data name. -/
theorem exact_leaves (w : Fin cfg0.W) (hw : marked w = false) (t : Fin cfg0.N)
    (hi : cfg0.idle w (cfg0.grid.coords t) = false) (X) (hX : (rdat m c).Leaves w t X) : X = (dats m 0 c).after w t := by
  obtain ⟨Y, _, hX⟩ := hX
  unfold rdat at hX
  rw [(dats m 0 c).toRRel_after_of_eq_false hw] at hX
  have hX : (dats m 0 c).Leaves w t X := hX
  have hl : cfg0.loose w = false := rfl
  unfold Pipeline.Dat.Leaves at hX
  rw [hi, hl] at hX
  exact hX

section Arrays

variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))

include h hL

theorem arr7 : ((rdat m c).withAfter after).arrAt 7 cfg0.N = G7 (aQ m c) (aK m c) (aV m c) (aX m c) (aW m c) (aS m c) (aB m c) := by
  refine ((rdat m c).withAfter after).arrAt_eq_of_covers 7 _ (by decide +kernel) fun t hf y => ?_
  obtain ⟨r, d, e⟩ := block_idx y
  exact (congrFun (exact_leaves m c 7 rfl t rfl _ (hL 7 t hf)) y).trans ((congrArg ((dats m 0 c).after 7 t) e).trans
    ((left7 m c h t r d).trans (congrArg (G7 (aQ m c) (aK m c) (aV m c) (aX m c) (aW m c) (aS m c) (aB m c))
      ((emb7 t r d).symm.trans (congrArg ((cfg0.win 7).blk t).view.emb e.symm)))))
theorem arr8 : ((rdat m c).withAfter after).arrAt 8 cfg0.N = G8 (aQ m c) (aK m c) (aV m c) (aX m c) (aW m c) (aS m c) (aB m c) := by
  refine ((rdat m c).withAfter after).arrAt_eq_of_covers 8 _ (by decide +kernel) fun t hf y => ?_
  obtain ⟨r, d, e⟩ := block_idx y
  exact (congrFun (exact_leaves m c 8 rfl t rfl _ (hL 8 t hf)) y).trans ((congrArg ((dats m 0 c).after 8 t) e).trans
    ((left8 m c h t r d).trans (congrArg (G8 (aQ m c) (aK m c) (aV m c) (aX m c) (aW m c) (aS m c) (aB m c))
      ((emb8 t r d).symm.trans (congrArg ((cfg0.win 8).blk t).view.emb e.symm)))))
theorem arr10 : ((rdat m c).withAfter after).arrAt 10 cfg0.N = G10 (aQ m c) (aK m c) (aV m c) (aX m c) (aW m c) (aS m c) (aB m c) := by
  refine ((rdat m c).withAfter after).arrAt_eq_of_covers 10 _ (by decide +kernel) fun t hf y => ?_
  obtain ⟨r, d, e⟩ := block_idx y
  exact (congrFun (exact_leaves m c 10 rfl t rfl _ (hL 10 t hf)) y).trans ((congrArg ((dats m 0 c).after 10 t) e).trans
    ((left10 m c h t r d).trans (congrArg (G10 (aQ m c) (aK m c) (aV m c) (aX m c) (aW m c) (aS m c) (aB m c))
      ((emb10 t r d).symm.trans (congrArg ((cfg0.win 10).blk t).view.emb e.symm)))))
theorem arr9 : ((rdat m c).withAfter after).arrAt 9 cfg0.N = G9 (aQ m c) (aK m c) (aV m c) (aX m c) (aW m c) (aS m c) (aB m c) := by
  have hf : (cfg0.win 9).flush lastPt = true := (flush0_9 _).mpr rfl
  have e : after 9 lastPt = G9 (aQ m c) (aK m c) (aV m c) (aX m c) (aW m c) (aS m c) (aB m c) :=
    filled_all (seg9 m c) _ _ ((dats m 0 c).toRRel_leaves (w := 9) rfl (hL 9 lastPt hf)) (left9 m c h)
  refine ((rdat m c).withAfter after).arrAt_eq_of_after_last 9 lastPt (by decide +kernel) _ fun j => ?_
  exact congrFun e j
theorem arr11 : ((rdat m c).withAfter after).arrAt 11 cfg0.N = G11 (aQ m c) (aK m c) (aV m c) (aX m c) (aW m c) (aS m c) (aB m c) := by
  have hf : (cfg0.win 11).flush lastPt = true := (flush0_11 _).mpr rfl
  have e : after 11 lastPt = G11 (aQ m c) (aK m c) (aV m c) (aX m c) (aW m c) (aS m c) (aB m c) :=
    filled_all (seg11 m c) _ _ ((dats m 0 c).toRRel_leaves (w := 11) rfl (hL 11 lastPt hf)) (left11 m c h)
  refine ((rdat m c).withAfter after).arrAt_eq_of_after_last 11 lastPt (by decide +kernel) _ fun j => ?_
  exact congrFun e j

end Arrays

/-! ## The run -/

/-- The run: each result array is the reference's function of the arguments, and every argument is left as it was. -/
theorem run_value (h : ∀ c, RealQK m c) : θ_run defs (onTc (τ := τ) (main (F := Ideal))) ⟨m, fun _ => 0, ρ⟩ (fun r => ∀ c : Dev nD,
    r.2.mem ((c.tc : Thread nD τ).loc main_v2_0) = G7 (aQ m c) (aK m c) (aV m c) (aX m c) (aW m c) (aS m c) (aB m c)
    ∧ r.2.mem ((c.tc : Thread nD τ).loc main_v2_1) = G8 (aQ m c) (aK m c) (aV m c) (aX m c) (aW m c) (aS m c) (aB m c)
    ∧ r.2.mem ((c.tc : Thread nD τ).loc main_v2_2) = G9 (aQ m c) (aK m c) (aV m c) (aX m c) (aW m c) (aS m c) (aB m c)
    ∧ r.2.mem ((c.tc : Thread nD τ).loc main_v2_3) = G10 (aQ m c) (aK m c) (aV m c) (aX m c) (aW m c) (aS m c) (aB m c)
    ∧ r.2.mem ((c.tc : Thread nD τ).loc main_v2_4) = G11 (aQ m c) (aK m c) (aV m c) (aX m c) (aW m c) (aS m c) (aB m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) := by
  refine (θ_run defs _ _).mono (fun r hr c => ?_) (run_main m ρ)
  haveI : ∀ e, Nonempty (Elt Ideal e) := Elt.nonempty Ideal
  obtain ⟨after, hL, hA⟩ := Pipeline.RDat.FramePost.exists_exact hr.1 c
  exact ⟨(hA 7).trans (arr7 m c (h c) after hL), (hA 8).trans (arr8 m c (h c) after hL), (hA 9).trans (arr9 m c (h c) after hL),
    (hA 10).trans (arr10 m c (h c) after hL), (hA 11).trans (arr11 m c (h c) after hL),
    ((congrFun ((rdat m c).ArrAt_in 0 rfl _) _).mp ((hr.1 c).1 0)).trans ((A_eq m c 0).trans (V_main_arg0 m c)),
    ((congrFun ((rdat m c).ArrAt_in 1 rfl _) _).mp ((hr.1 c).1 1)).trans ((A_eq m c 1).trans (V_main_arg1 m c)),
    ((congrFun ((rdat m c).ArrAt_in 2 rfl _) _).mp ((hr.1 c).1 2)).trans ((A_eq m c 2).trans (V_main_arg2 m c)),
    ((congrFun ((rdat m c).ArrAt_in 3 rfl _) _).mp ((hr.1 c).1 3)).trans ((A_eq m c 3).trans (V_main_arg3 m c)),
    ((congrFun ((rdat m c).ArrAt_in 4 rfl _) _).mp ((hr.1 c).1 4)).trans ((A_eq m c 4).trans (V_main_arg4 m c)),
    ((hr.1 c).2 main_arg5 (Pipeline.mem_restRefs_of main_arg5 (by decide) (by decide))).trans (V_main_arg5 m c),
    ((hr.1 c).2 main_arg6 (Pipeline.mem_restRefs_of main_arg6 (by decide) (by decide))).trans (V_main_arg6 m c)⟩

end Cert.KernelIdeal.Attn
-- ==== Proof.Finite.lean ====
/-
  The precondition read at the ideal instance: a queries or keys entry of magnitude less than infinity is a real number.
-/
module

public import proofs.«01_k».proof.Proof.Quant
public import proofs.«01_k».proof.Pre_finite_scores

@[expose] public section

noncomputable section

namespace Cert.Attn

open Idealize.ShloMosaic

theorem pre_facts : Cert.Pre_finite_scores.Facts := ⟨by decide⟩

theorem bits_top : Ideal.ofBits .bf16 0x7F80#16 = ⊤ := by
  simp [Ideal.ofBits, Ideal.ieee, -EReal.coe_mul]

/-- A number of magnitude less than infinity is real. -/
theorem real_of_lt_top (x : EReal) (h : Ideal.cmp .olt (max x (-x)) ⊤ = 1#1) : ∃ r : ℝ, x = r := by
  have hlt : max x (-x) < ⊤ := by
    by_contra hn
    simp [Ideal.cmp, hn] at h
  induction x with
  | bot => simp at hlt
  | top => simp at hlt
  | coe r => exact ⟨r, rfl⟩

/-- What the two components of the precondition say. -/
theorem real_of_pre (x : FVec Ideal Cert.Pre_finite_scores.S12x2048x512 .bf16)
    (hb : Cert.Pre_finite_scores.S_.BroadcastsInDim Cert.Pre_finite_scores.S12x2048x512 (![] : Fin 0 → Fin Cert.Pre_finite_scores.S12x2048x512.rank))
    (h : cmpf .olt (Host.absf x) (broadcastInDim Cert.Pre_finite_scores.S12x2048x512 ![] hb (constant (F := Ideal) Cert.Pre_finite_scores.S_ .bf16 0x7F80#16)) = fun _ => 1#1)
    (i : Cert.Pre_finite_scores.S12x2048x512.Idx) : ∃ r : ℝ, x i = (r : EReal) := by
  refine real_of_lt_top (x i) ?_
  have hi := congrFun h i
  rw [← bits_top]
  exact hi

end Cert.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.KernelRun
public import proofs.«01_k».proof.Proof.KernelIdealRun
public import proofs.«01_k».proof.Proof.KernelIdealValue
public import proofs.«01_k».proof.Proof.ReferenceValue
public import proofs.«01_k».proof.Proof.Finite
public import Idealize.ShloMosaic.Adequacy
public import Idealize.ShloMosaic.Init

@[expose] public section

noncomputable section

namespace Cert.Proof

open Idealize.ShloMosaic Idealize.SL.Sem Cert.Kernel

/-- Under the precondition the queries and the keys are real. -/
theorem real_args [Cert.Pre_finite_scores.Facts]
    (m : (ℓ : Loc Cert.KernelIdeal.nD Cert.KernelIdeal.τ Cert.KernelIdeal.sig) → Buf (Elt Ideal) ℓ)
    (h : Cert.Pre_KernelIdeal_finite_scores m) (c : Dev Cert.KernelIdeal.nD) : Cert.KernelIdeal.Attn.RealQK m c :=
  ⟨fun b r d => Cert.Attn.real_of_pre _ Cert.Pre_finite_scores.Facts.bcast_S_S12x2048x512 (h c).1 (ix3 b r d),
    fun b r d => Cert.Attn.real_of_pre _ Cert.Pre_finite_scores.Facts.bcast_S_S12x2048x512 (h c).2 (ix3 b r d)⟩

/-- The kernel and the reference leave the same five results. -/
theorem algebraic [Cert.Pre_finite_scores.Facts] : Cert.algebraic_KernelIdeal_ReferenceIdeal_pre_finite_scores := by
  intro m g m' g' hpre hargs
  refine ⟨_, _, _, _, _, Cert.KernelIdeal.Attn.run_value m g (real_args m hpre), ?_⟩
  refine (θ_run _ _ _).mono (fun r h c => ?_) (Cert.ReferenceIdeal.Attn.run m' g')
  obtain ⟨e0, e1, e2, e3, e4, e5, e6⟩ := hargs c
  obtain ⟨h0, h1, h2, h3, h4, hk⟩ := h c
  rw [e0, e1, e2, e3, e4, e5, e6] at h0 h1 h2 h3 h4
  exact ⟨h0, h1, h2, h3, h4, hk⟩

theorem claim : Cert.Claim :=
  haveI := Cert.Attn.pre_facts
  ⟨Cert.Kernel.Gen.facts, Cert.KernelIdeal.Gen.facts, Cert.ReferenceIdeal.Gen.facts, Cert.Reference.Gen.facts, Cert.Attn.pre_facts,
    fun m ρ _ => Cert.Kernel.Attn.frame m ρ, fun m ρ _ => Cert.KernelIdeal.Attn.frame m ρ, fun m ρ _ => Cert.KernelIdeal.Attn.frame m ρ,
    fun m ρ _ => Cert.ReferenceIdeal.Gen.frame m ρ, fun m ρ _ => Cert.ReferenceIdeal.Gen.frame m ρ, fun m ρ _ => Cert.Reference.Gen.frame m ρ,
    IdealRules.named_const.statement Cert.KernelIdeal.κ "score_scale_log2e" .f32 0x3D8293EE#32 (((Real.sqrt 512)⁻¹ * (Real.log 2)⁻¹ : ℝ) : EReal) rfl,
    IdealRules.named_const.statement Cert.ReferenceIdeal.κ "score_scale" .f32 0x3D3504F3#32 (((Real.sqrt 512)⁻¹ : ℝ) : EReal) rfl,
    algebraic⟩

end Cert.Proof

end
